-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_powers_and_finite [hPre_powers_and_finite : Cert.Pre_powers_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_powers_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_powers_and_finite [hPre_powers_and_finite : Cert.Pre_powers_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_powers_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_powers_and_finite [hKernelIdeal : Cert.KernelIdeal.Facts] [hPre_powers_and_finite : Cert.Pre_powers_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_powers_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_powers_and_finite [hReferenceIdeal : Cert.ReferenceIdeal.Facts] [hPre_powers_and_finite : Cert.Pre_powers_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_powers_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_powers_and_finite [hKernelIdeal : Cert.KernelIdeal.Facts] [hReferenceIdeal : Cert.ReferenceIdeal.Facts] [hPre_powers_and_finite : Cert.Pre_powers_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_powers_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v32)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v40_0)) (v1 : (c : Dev Cert.Kernel5Ideal.nD) → Buf (Elt Ideal) ((c.tc : Thread Cert.Kernel5Ideal.nD Cert.Kernel5Ideal.τ).loc Cert.Kernel5Ideal.main_v40_1)) (v2 : (c : Dev Cert.Kernel5Ideal.nD) → Buf (Elt Ideal) ((c.tc : Thread Cert.Kernel5Ideal.nD Cert.Kernel5Ideal.τ).loc Cert.Kernel5Ideal.main_v40_3)) (v3 : (c : Dev Cert.Kernel5Ideal.nD) → Buf (Elt Ideal) ((c.tc : Thread Cert.Kernel5Ideal.nD Cert.Kernel5Ideal.τ).loc Cert.Kernel5Ideal.main_v40_9)) (v4 : (c : Dev Cert.Kernel5Ideal.nD) → Buf (Elt Ideal) ((c.tc : Thread Cert.Kernel5Ideal.nD Cert.Kernel5Ideal.τ).loc Cert.Kernel5Ideal.main_v40_10)) (v5 : (c : Dev Cert.Kernel5Ideal.nD) → Buf (Elt Ideal) ((c.tc : Thread Cert.Kernel5Ideal.nD Cert.Kernel5Ideal.τ).loc Cert.Kernel5Ideal.main_v40_11)) (v6 : (c : Dev Cert.Kernel5Ideal.nD) → Buf (Elt Ideal) ((c.tc : Thread Cert.Kernel5Ideal.nD Cert.Kernel5Ideal.τ).loc Cert.Kernel5Ideal.main_v40_12)) (v7 : (c : Dev Cert.Kernel5Ideal.nD) → Buf (Elt Ideal) ((c.tc : Thread Cert.Kernel5Ideal.nD Cert.Kernel5Ideal.τ).loc Cert.Kernel5Ideal.main_v40_13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v40_0) = v0 c
          ∧ r.2.mem ((c.tc : Thread Cert.Kernel5Ideal.nD Cert.Kernel5Ideal.τ).loc Cert.Kernel5Ideal.main_v40_1) = v1 c
          ∧ r.2.mem ((c.tc : Thread Cert.Kernel5Ideal.nD Cert.Kernel5Ideal.τ).loc Cert.Kernel5Ideal.main_v40_3) = v2 c
          ∧ r.2.mem ((c.tc : Thread Cert.Kernel5Ideal.nD Cert.Kernel5Ideal.τ).loc Cert.Kernel5Ideal.main_v40_9) = v3 c
          ∧ r.2.mem ((c.tc : Thread Cert.Kernel5Ideal.nD Cert.Kernel5Ideal.τ).loc Cert.Kernel5Ideal.main_v40_10) = v4 c
          ∧ r.2.mem ((c.tc : Thread Cert.Kernel5Ideal.nD Cert.Kernel5Ideal.τ).loc Cert.Kernel5Ideal.main_v40_11) = v5 c
          ∧ r.2.mem ((c.tc : Thread Cert.Kernel5Ideal.nD Cert.Kernel5Ideal.τ).loc Cert.Kernel5Ideal.main_v40_12) = v6 c
          ∧ r.2.mem ((c.tc : Thread Cert.Kernel5Ideal.nD Cert.Kernel5Ideal.τ).loc Cert.Kernel5Ideal.main_v40_13) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v129) = v0 c
          ∧ r.2.mem ((c.tc : Thread Cert.Reference5Ideal.nD Cert.Reference5Ideal.τ).loc Cert.Reference5Ideal.main_v131) = v1 c
          ∧ r.2.mem ((c.tc : Thread Cert.Reference5Ideal.nD Cert.Reference5Ideal.τ).loc Cert.Reference5Ideal.main_v133) = v2 c
          ∧ r.2.mem ((c.tc : Thread Cert.Reference5Ideal.nD Cert.Reference5Ideal.τ).loc Cert.Reference5Ideal.main_v134) = v3 c
          ∧ r.2.mem ((c.tc : Thread Cert.Reference5Ideal.nD Cert.Reference5Ideal.τ).loc Cert.Reference5Ideal.main_v136) = v4 c
          ∧ r.2.mem ((c.tc : Thread Cert.Reference5Ideal.nD Cert.Reference5Ideal.τ).loc Cert.Reference5Ideal.main_v138) = v5 c
          ∧ r.2.mem ((c.tc : Thread Cert.Reference5Ideal.nD Cert.Reference5Ideal.τ).loc Cert.Reference5Ideal.main_v139) = v6 c
          ∧ r.2.mem ((c.tc : Thread Cert.Reference5Ideal.nD Cert.Reference5Ideal.τ).loc Cert.Reference5Ideal.main_v140) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_powers_and_finite : Cert.Pre_powers_and_finite.Facts),
    quiescent_Kernel (hKernel := hKernel)
    ∧ quiescent_KernelIdeal (hKernelIdeal := hKernelIdeal)
    ∧ quiescent_KernelIdeal_pre_powers_and_finite (hKernelIdeal := hKernelIdeal) (hPre_powers_and_finite := hPre_powers_and_finite)
    ∧ quiescent_ReferenceIdeal (hReferenceIdeal := hReferenceIdeal)
    ∧ quiescent_ReferenceIdeal_pre_powers_and_finite (hReferenceIdeal := hReferenceIdeal) (hPre_powers_and_finite := hPre_powers_and_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_powers_and_finite (hKernelIdeal := hKernelIdeal) (hReferenceIdeal := hReferenceIdeal) (hPre_powers_and_finite := hPre_powers_and_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_powers_and_finite.lean ====
abbrev S2x8192x256 : Shape := ⟨3, ![2, 8192, 256]⟩
abbrev S256x1024 : Shape := ⟨2, ![256, 1024]⟩
abbrev S1024x16 : Shape := ⟨2, ![1024, 16]⟩
abbrev S16x16x64 : Shape := ⟨3, ![16, 16, 64]⟩
abbrev S256 : Shape := ⟨1, ![256]⟩
abbrev S256x256 : Shape := ⟨2, ![256, 256]⟩
abbrev S255x1024 : Shape := ⟨2, ![255, 1024]⟩
abbrev S1x1024 : Shape := ⟨2, ![1, 1024]⟩
abbrev S_ : Shape := ⟨0, ![]⟩

class Facts : Prop where
  slices_S256x1024_S255x1024_0_0 : S256x1024.Slices ![0, 0] S255x1024
  slices_S256x1024_S1x1024_0_0 : S256x1024.Slices ![0, 0] S1x1024
  bcast_S1x1024_S255x1024_0_1 : S1x1024.BroadcastsInDim S255x1024 (![0, 1] : Fin 2 → Fin S255x1024.rank)
  bcast_S_S2x8192x256 : S_.BroadcastsInDim S2x8192x256 (![] : Fin 0 → Fin S2x8192x256.rank)
  reducesTo_S2x8192x256_S_d0_1_2 : S2x8192x256.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S16x16x64 : S_.BroadcastsInDim S16x16x64 (![] : Fin 0 → Fin S16x16x64.rank)
  reducesTo_S16x16x64_S_d0_1_2 : S16x16x64.ReducesTo [0, 1, 2] S_
  slices_S256x1024_S255x1024_1_0 : S256x1024.Slices ![1, 0] S255x1024
  reducesTo_S255x1024_S_d0_1 : S255x1024.ReducesTo [0, 1] S_

variable [Facts]

def fn_part2 {F : FTy → Type} [FloatOps F] (main_arg1 : FVec F S256x1024 .f32) (main_arg2 : FVec F S256x1024 .f32) (main_arg6 : FVec F S16x16x64 .f32) (main_v8 : FVec F S255x1024 .f32) (main_v17 : FVec F S255x1024 .f32) (main_v36 : IVec S_ 1) (main_v37 : FVec F S1024x16 .f32) (main_v38 : FVec F S1024x16 .f32) : IVec S_ 1 :=
  let main_v39 : IVec S1024x16 1 := cmpf .olt main_v37 main_v38
  let main_c_7 : IVec S_ 1 := constantI S_ 1 1#1
  let main_v40 : IVec S_ 1 := (fun x v => Host.reduce IntOp.andi x v reducesTo_S1024x16_S_d0_1 h_S_) main_v39 main_c_7
  let main_v41 : IVec S_ 1 := andi main_v36 main_v40
  let main_v42 : FVec F S16x16x64 .f32 := Host.absf main_arg6
  let main_cst_8 : FVec F S_ .f32 := constant S_ .f32 0x7F800000#32
  let main_v43 : FVec F S16x16x64 .f32 := broadcastInDim S16x16x64 ![] bcast_S_S16x16x64 main_cst_8
  let main_v44 : IVec S16x16x64 1 := cmpf .olt main_v42 main_v43
  let main_c_9 : IVec S_ 1 := constantI S_ 1 1#1
  let main_v45 : IVec S_ 1 := (fun x v => Host.reduce IntOp.andi x v reducesTo_S16x16x64_S_d0_1_2 h_S_) main_v44 main_c_9
  let main_v46 : IVec S_ 1 := andi main_v41 main_v45
  let main_v47 : FVec F S255x1024 .f32 := (extractStridedSlice S255x1024 ![1, 0] · slices_S256x1024_S255x1024_1_0) main_arg1
  let main_v48 : IVec S255x1024 1 := cmpf .oeq main_v47 main_v8
  let main_c_10 : IVec S_ 1 := constantI S_ 1 1#1
  let main_v49 : IVec S_ 1 := (fun x v => Host.reduce IntOp.andi x v reducesTo_S255x1024_S_d0_1 h_S_) main_v48 main_c_10
  let main_v50 : IVec S_ 1 := andi main_v46 main_v49
  let main_v51 : FVec F S255x1024 .f32 := (extractStridedSlice S255x1024 ![1, 0] · slices_S256x1024_S255x1024_1_0) main_arg2
  let main_v52 : IVec S255x1024 1 := cmpf .oeq main_v51 main_v17
  let main_c_11 : IVec S_ 1 := constantI S_ 1 1#1
  let main_v53 : IVec S_ 1 := (fun x v => Host.reduce IntOp.andi x v reducesTo_S255x1024_S_d0_1 h_S_) main_v52 main_c_11
  let main_v54 : IVec S_ 1 := andi main_v50 main_v53
  main_v54

def fn_part1 {F : FTy → Type} [FloatOps F] (main_arg1 : FVec F S256x1024 .f32) (main_arg2 : FVec F S256x1024 .f32) (main_arg3 : FVec F S1024x16 .f32) (main_arg4 : FVec F S1024x16 .f32) (main_arg6 : FVec F S16x16x64 .f32) (main_v8 : FVec F S255x1024 .f32) (main_v17 : FVec F S255x1024 .f32) (main_v21 : IVec S_ 1) : IVec S_ 1 :=
  let main_v22 : FVec F S256x1024 .f32 := Host.absf main_arg1
  let main_cst_0 : FVec F S_ .f32 := constant S_ .f32 0x7F800000#32
  let main_v23 : FVec F S256x1024 .f32 := broadcastInDim S256x1024 ![] bcast_S_S256x1024 main_cst_0
  let main_v24 : IVec S256x1024 1 := cmpf .olt main_v22 main_v23
  let main_c_1 : IVec S_ 1 := constantI S_ 1 1#1
  let main_v25 : IVec S_ 1 := (fun x v => Host.reduce IntOp.andi x v reducesTo_S256x1024_S_d0_1 h_S_) main_v24 main_c_1
  let main_v26 : IVec S_ 1 := andi main_v21 main_v25
  let main_v27 : FVec F S256x1024 .f32 := Host.absf main_arg2
  let main_cst_2 : FVec F S_ .f32 := constant S_ .f32 0x7F800000#32
  let main_v28 : FVec F S256x1024 .f32 := broadcastInDim S256x1024 ![] bcast_S_S256x1024 main_cst_2
  let main_v29 : IVec S256x1024 1 := cmpf .olt main_v27 main_v28
  let main_c_3 : IVec S_ 1 := constantI S_ 1 1#1
  let main_v30 : IVec S_ 1 := (fun x v => Host.reduce IntOp.andi x v reducesTo_S256x1024_S_d0_1 h_S_) main_v29 main_c_3
  let main_v31 : IVec S_ 1 := andi main_v26 main_v30
  let main_v32 : FVec F S1024x16 .f32 := Host.absf main_arg3
  let main_cst_4 : FVec F S_ .f32 := constant S_ .f32 0x7F800000#32
  let main_v33 : FVec F S1024x16 .f32 := broadcastInDim S1024x16 ![] bcast_S_S1024x16 main_cst_4
  let main_v34 : IVec S1024x16 1 := cmpf .olt main_v32 main_v33
  let main_c_5 : IVec S_ 1 := constantI S_ 1 1#1
  let main_v35 : IVec S_ 1 := (fun x v => Host.reduce IntOp.andi x v reducesTo_S1024x16_S_d0_1 h_S_) main_v34 main_c_5
  let main_v36 : IVec S_ 1 := andi main_v31 main_v35
  let main_v37 : FVec F S1024x16 .f32 := Host.absf main_arg4
  let main_cst_6 : FVec F S_ .f32 := constant S_ .f32 0x7F800000#32
  let main_v38 : FVec F S1024x16 .f32 := broadcastInDim S1024x16 ![] bcast_S_S1024x16 main_cst_6
  fn_part2 (F := F) main_arg1 main_arg2 main_arg6 main_v8 main_v17 main_v36 main_v37 main_v38

def fn {F : FTy → Type} [FloatOps F] (main_arg0 : FVec F S2x8192x256 .f32) (main_arg1 : FVec F S256x1024 .f32) (main_arg2 : FVec F S256x1024 .f32) (main_arg3 : FVec F S1024x16 .f32) (main_arg4 : FVec F S1024x16 .f32) (main_arg5 : FVec F S16x16x64 .f32) (main_arg6 : FVec F S16x16x64 .f32) (main_arg7 : FVec F S256 .f32) (main_arg8 : FVec F S256x256 .f32) (main_arg9 : FVec F S256 .f32) : IVec S_ 1 :=
  let main_v0 : FVec F S255x1024 .f32 := (extractStridedSlice S255x1024 ![0, 0] · slices_S256x1024_S255x1024_0_0) main_arg1
  let main_v1 : FVec F S1x1024 .f32 := (extractStridedSlice S1x1024 ![0, 0] · slices_S256x1024_S1x1024_0_0) main_arg1
  let main_v2 : FVec F S255x1024 .f32 := broadcastInDim S255x1024 ![0, 1] bcast_S1x1024_S255x1024_0_1 main_v1
  let main_v3 : FVec F S255x1024 .f32 := mulf main_v0 main_v2
  let main_v4 : FVec F S255x1024 .f32 := (extractStridedSlice S255x1024 ![0, 0] · slices_S256x1024_S255x1024_0_0) main_arg2
  let main_v5 : FVec F S1x1024 .f32 := (extractStridedSlice S1x1024 ![0, 0] · slices_S256x1024_S1x1024_0_0) main_arg2
  let main_v6 : FVec F S255x1024 .f32 := broadcastInDim S255x1024 ![0, 1] bcast_S1x1024_S255x1024_0_1 main_v5
  let main_v7 : FVec F S255x1024 .f32 := mulf main_v4 main_v6
  let main_v8 : FVec F S255x1024 .f32 := subf main_v3 main_v7
  let main_v9 : FVec F S255x1024 .f32 := (extractStridedSlice S255x1024 ![0, 0] · slices_S256x1024_S255x1024_0_0) main_arg1
  let main_v10 : FVec F S1x1024 .f32 := (extractStridedSlice S1x1024 ![0, 0] · slices_S256x1024_S1x1024_0_0) main_arg2
  let main_v11 : FVec F S255x1024 .f32 := broadcastInDim S255x1024 ![0, 1] bcast_S1x1024_S255x1024_0_1 main_v10
  let main_v12 : FVec F S255x1024 .f32 := mulf main_v9 main_v11
  let main_v13 : FVec F S255x1024 .f32 := (extractStridedSlice S255x1024 ![0, 0] · slices_S256x1024_S255x1024_0_0) main_arg2
  let main_v14 : FVec F S1x1024 .f32 := (extractStridedSlice S1x1024 ![0, 0] · slices_S256x1024_S1x1024_0_0) main_arg1
  let main_v15 : FVec F S255x1024 .f32 := broadcastInDim S255x1024 ![0, 1] bcast_S1x1024_S255x1024_0_1 main_v14
  let main_v16 : FVec F S255x1024 .f32 := mulf main_v13 main_v15
  let main_v17 : FVec F S255x1024 .f32 := addf main_v12 main_v16
  let main_v18 : FVec F S2x8192x256 .f32 := Host.absf main_arg0
  let main_cst : FVec F S_ .f32 := constant S_ .f32 0x7F800000#32
  let main_v19 : FVec F S2x8192x256 .f32 := broadcastInDim S2x8192x256 ![] bcast_S_S2x8192x256 main_cst
  let main_v20 : IVec S2x8192x256 1 := cmpf .olt main_v18 main_v19
  let main_c : IVec S_ 1 := constantI S_ 1 1#1
  let main_v21 : IVec S_ 1 := (fun x v => Host.reduce IntOp.andi x v reducesTo_S2x8192x256_S_d0_1_2 h_S_) main_v20 main_c
  fn_part1 (F := F) main_arg1 main_arg2 main_arg3 main_arg4 main_arg6 main_v8 main_v17 main_v21
-- ==== Kernel.lean ====
abbrev S2x8192x256 : Shape := ⟨3, ![2, 8192, 256]⟩
abbrev S256x1024 : Shape := ⟨2, ![256, 1024]⟩
abbrev S1024x16 : Shape := ⟨2, ![1024, 16]⟩
abbrev S16x16x64 : Shape := ⟨3, ![16, 16, 64]⟩
abbrev S256 : Shape := ⟨1, ![256]⟩
abbrev S256x256 : Shape := ⟨2, ![256, 256]⟩
abbrev S16x16 : Shape := ⟨2, ![16, 16]⟩
abbrev S_ : Shape := ⟨0, ![]⟩
abbrev S16x64x16 : Shape := ⟨3, ![16, 64, 16]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x2048 : Shape := ⟨2, ![256, 2048]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S2048x256 : Shape := ⟨2, ![2048, 256]⟩
abbrev S1x256 : Shape := ⟨2, ![1, 256]⟩
abbrev S2x1x2048 : Shape := ⟨3, ![2, 1, 2048]⟩
abbrev S1x256x256 : Shape := ⟨3, ![1, 256, 256]⟩
abbrev S1x1x2048 : Shape := ⟨3, ![1, 1, 2048]⟩
abbrev S1x1024 : Shape := ⟨2, ![1, 1024]⟩
abbrev S1x1x1024 : Shape := ⟨3, ![1, 1, 1024]⟩

abbrev nBuf : Space → Nat
  | .hbm => 59
  | .vmem => 17
  | .smem => 0
  | _ => 0

abbrev bufTy : (tb : Table) → Fin (tcTables nBuf tb) → BufTy
  | .hbm, ⟨0, _⟩ => ⟨S2x8192x256, .f32⟩
  | .hbm, ⟨1, _⟩ => ⟨S256x1024, .f32⟩
  | .hbm, ⟨2, _⟩ => ⟨S256x1024, .f32⟩
  | .hbm, ⟨3, _⟩ => ⟨S1024x16, .f32⟩
  | .hbm, ⟨4, _⟩ => ⟨S1024x16, .f32⟩
  | .hbm, ⟨5, _⟩ => ⟨S16x16x64, .f32⟩
  | .hbm, ⟨6, _⟩ => ⟨S16x16x64, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S16x16, .i1⟩
  | .hbm, ⟨16, _⟩ => ⟨S16x16, .f32⟩
  | .hbm, ⟨17, _⟩ => ⟨S16x64x16, .f32⟩
  | .hbm, ⟨18, _⟩ => ⟨S16x16x64, .f32⟩
  | .hbm, ⟨19, _⟩ => ⟨S16x16x1x64, .f32⟩
  | .hbm, ⟨20, _⟩ => ⟨S16x1x16x1, .f32⟩
  | .hbm, ⟨21, _⟩ => ⟨S16x16x16x64, .f32⟩
  | .hbm, ⟨22, _⟩ => ⟨S16x16x16x64, .f32⟩
  | .hbm, ⟨23, _⟩ => ⟨S16x16x16x64, .f32⟩
  | .hbm, ⟨24, _⟩ => ⟨S256x1024, .f32⟩
  | .hbm, ⟨25, _⟩ => ⟨S16x64x16, .f32⟩
  | .hbm, ⟨26, _⟩ => ⟨S16x16x64, .f32⟩
  | .hbm, ⟨27, _⟩ => ⟨S16x16x1x64, .f32⟩
  | .hbm, ⟨28, _⟩ => ⟨S16x1x16x1, .f32⟩
  | .hbm, ⟨29, _⟩ => ⟨S16x16x16x64, .f32⟩
  | .hbm, ⟨30, _⟩ => ⟨S16x16x16x64, .f32⟩
  | .hbm, ⟨31, _⟩ => ⟨S16x16x16x64, .f32⟩
  | .hbm, ⟨32, _⟩ => ⟨S256x1024, .f32⟩
  | .hbm, ⟨33, _⟩ => ⟨S256x2048, .f32⟩
  | .hbm, ⟨34, _⟩ => ⟨S256x2048, .bf16⟩
  | .hbm, ⟨35, _⟩ => ⟨S16x64x16, .f32⟩
  | .hbm, ⟨36, _⟩ => ⟨S16x64x1x16, .f32⟩
  | .hbm, ⟨37, _⟩ => ⟨S16x1x16x1, .f32⟩
  | .hbm, ⟨38, _⟩ => ⟨S16x64x16x16, .f32⟩
  | .hbm, ⟨39, _⟩ => ⟨S16x64x16x16, .f32⟩
  | .hbm, ⟨40, _⟩ => ⟨S16x64x16x16, .f32⟩
  | .hbm, ⟨41, _⟩ => ⟨S1024x256, .f32⟩
  | .hbm, ⟨42, _⟩ => ⟨S16x64x16, .f32⟩
  | .hbm, ⟨43, _⟩ => ⟨S16x64x1x16, .f32⟩
  | .hbm, ⟨44, _⟩ => ⟨S16x1x16x1, .f32⟩
  | .hbm, ⟨45, _⟩ => ⟨S16x64x16x16, .f32⟩
  | .hbm, ⟨46, _⟩ => ⟨S16x64x16x16, .f32⟩
  | .hbm, ⟨47, _⟩ => ⟨S16x64x16x16, .f32⟩
  | .hbm, ⟨48, _⟩ => ⟨S1024x256, .f32⟩
  | .hbm, ⟨49, _⟩ => ⟨S1024x256, .f32⟩
  | .hbm, ⟨50, _⟩ => ⟨S2048x256, .f32⟩
  | .hbm, ⟨51, _⟩ => ⟨S2048x256, .bf16⟩
  | .hbm, ⟨52, _⟩ => ⟨S1x256, .f32⟩
  | .hbm, ⟨53, _⟩ => ⟨S256x256, .bf16⟩
  | .hbm, ⟨54, _⟩ => ⟨S1x256, .f32⟩
  | .hbm, ⟨55, _⟩ => ⟨S_, .f32⟩
  | .hbm, ⟨56, _⟩ => ⟨S2x1x2048, .f32⟩
  | .hbm, ⟨57, _⟩ => ⟨S2x8192x256, .f32⟩
  | .hbm, ⟨58, _⟩ => ⟨S2x1x2048, .f32⟩
  | .local _ .vmem, ⟨0, _⟩ => ⟨S1x256x256, .f32⟩
  | .local _ .vmem, ⟨1, _⟩ => ⟨S1x256x256, .f32⟩
  | .local _ .vmem, ⟨2, _⟩ => ⟨S1x1x2048, .f32⟩
  | .local _ .vmem, ⟨3, _⟩ => ⟨S1x1x2048, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S2048x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S1x256x256, .f32⟩
  | .local _ .vmem, ⟨12, _⟩ => ⟨S1x256x256, .f32⟩
  | .local _ .vmem, ⟨13, _⟩ => ⟨S1x1x2048, .f32⟩
  | .local _ .vmem, ⟨14, _⟩ => ⟨S1x1x2048, .f32⟩
  | .local _ .vmem, ⟨15, _⟩ => ⟨S1x1024, .f32⟩
  | .local _ .vmem, ⟨16, _⟩ => ⟨S1x1024, .f32⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst : Ref sig .tc := ⟨.hbm, 55, rfl⟩
abbrev main_v44 : Ref sig .tc := ⟨.hbm, 56, rfl⟩
abbrev main_v45_0 : Ref sig .tc := ⟨.hbm, 57, rfl⟩
abbrev main_v45_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S2x8192x256 : Shape := ⟨3, ![2, 8192, 256]⟩
abbrev S256x1024 : Shape := ⟨2, ![256, 1024]⟩
abbrev S1024x16 : Shape := ⟨2, ![1024, 16]⟩
abbrev S16x16x64 : Shape := ⟨3, ![16, 16, 64]⟩
abbrev S256 : Shape := ⟨1, ![256]⟩
abbrev S256x256 : Shape := ⟨2, ![256, 256]⟩
abbrev S1x1024 : Shape := ⟨2, ![1, 1024]⟩
abbrev S1024 : Shape := ⟨1, ![1024]⟩
abbrev S16x64 : Shape := ⟨2, ![16, 64]⟩
abbrev S16x64x16 : Shape := ⟨3, ![16, 64, 16]⟩
abbrev S2x8192x16x16 : Shape := ⟨4, ![2, 8192, 16, 16]⟩
abbrev S16x64x2x8192 : Shape := ⟨4, ![16, 64, 2, 8192]⟩
abbrev S2x8192x16x64 : Shape := ⟨4, ![2, 8192, 16, 64]⟩
abbrev S_ : Shape := ⟨0, ![]⟩
abbrev S2x16x64 : Shape := ⟨3, ![2, 16, 64]⟩
abbrev S8192x2x16x64 : Shape := ⟨4, ![8192, 2, 16, 64]⟩
abbrev S1x2x16x64 : Shape := ⟨4, ![1, 2, 16, 64]⟩
abbrev S1x16x64 : Shape := ⟨3, ![1, 16, 64]⟩
abbrev S16x16x8192x2 : Shape := ⟨4, ![16, 16, 8192, 2]⟩
abbrev S1x1x256 : Shape := ⟨3, ![1, 1, 256]⟩
abbrev S2x1024 : Shape := ⟨2, ![2, 1024]⟩
abbrev S2x2048 : Shape := ⟨2, ![2, 2048]⟩
abbrev S2x1x2048 : Shape := ⟨3, ![2, 1, 2048]⟩

abbrev nBuf : Space → Nat
  | .hbm => 125
  | .vmem => 0
  | .smem => 0
  | _ => 0

abbrev bufTy : (tb : Table) → Fin (tcTables nBuf tb) → BufTy
  | .hbm, ⟨0, _⟩ => ⟨S2x8192x256, .f32⟩
  | .hbm, ⟨1, _⟩ => ⟨S256x1024, .f32⟩
  | .hbm, ⟨2, _⟩ => ⟨S256x1024, .f32⟩
  | .hbm, ⟨3, _⟩ => ⟨S1024x16, .f32⟩
  | .hbm, ⟨4, _⟩ => ⟨S1024x16, .f32⟩
  | .hbm, ⟨5, _⟩ => ⟨S16x16x64, .f32⟩
  | .hbm, ⟨6, _⟩ => ⟨S16x16x64, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x1024, .f32⟩
  | .hbm, ⟨11, _⟩ => ⟨S1024, .f32⟩
  | .hbm, ⟨12, _⟩ => ⟨S16x64, .f32⟩
  | .hbm, ⟨13, _⟩ => ⟨S1x1024, .f32⟩
  | .hbm, ⟨14, _⟩ => ⟨S1024, .f32⟩
  | .hbm, ⟨15, _⟩ => ⟨S16x64, .f32⟩
  | .hbm, ⟨16, _⟩ => ⟨S16x64x16, .f32⟩
  | .hbm, ⟨17, _⟩ => ⟨S16x64x16, .f32⟩
  | .hbm, ⟨18, _⟩ => ⟨S2x8192x16x16, .f32⟩
  | .hbm, ⟨19, _⟩ => ⟨S16x64x2x8192, .f32⟩
  | .hbm, ⟨20, _⟩ => ⟨S2x8192x16x64, .f32⟩
  | .hbm, ⟨21, _⟩ => ⟨S16x64x2x8192, .f32⟩
  | .hbm, ⟨22, _⟩ => ⟨S2x8192x16x64, .f32⟩
  | .hbm, ⟨23, _⟩ => ⟨S_, .f32⟩
  | .hbm, ⟨24, _⟩ => ⟨S2x16x64, .f32⟩
  | .hbm, ⟨25, _⟩ => ⟨S8192x2x16x64, .f32⟩
  | .hbm, ⟨26, _⟩ => ⟨S8192x2x16x64, .f32⟩
  | .hbm, ⟨27, _⟩ => ⟨S_, .f32⟩
  | .hbm, ⟨28, _⟩ => ⟨S8192x2x16x64, .f32⟩
  | .hbm, ⟨29, _⟩ => ⟨S_, .f32⟩
  | .hbm, ⟨30, _⟩ => ⟨S8192x2x16x64, .f32⟩
  | .hbm, ⟨31, _⟩ => ⟨S_, .i32⟩
  | .hbm, ⟨32, _⟩ => ⟨S8192x2x16x64, .f32⟩
  | .hbm, ⟨33, _⟩ => ⟨S8192x2x16x64, .f32⟩
  | .hbm, ⟨34, _⟩ => ⟨S16x64, .f32⟩
  | .hbm, ⟨35, _⟩ => ⟨S16x64, .f32⟩
  | .hbm, ⟨36, _⟩ => ⟨S_, .i32⟩
  | .hbm, ⟨37, _⟩ => ⟨S2x16x64, .f32⟩
  | .hbm, ⟨38, _⟩ => ⟨S2x16x64, .f32⟩
  | .hbm, ⟨39, _⟩ => ⟨S8192x2x16x64, .f32⟩
  | .hbm, ⟨40, _⟩ => ⟨S8192x2x16x64, .f32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x2x16x64, .f32⟩
  | .hbm, ⟨47, _⟩ => ⟨S2x16x64, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x2x16x64, .f32⟩
  | .hbm, ⟨52, _⟩ => ⟨S2x16x64, .f32⟩
  | .hbm, ⟨53, _⟩ => ⟨S1x16x64, .f32⟩
  | .hbm, ⟨54, _⟩ => ⟨S2x16x64, .f32⟩
  | .hbm, ⟨55, _⟩ => ⟨S2x16x64, .f32⟩
  | .hbm, ⟨56, _⟩ => ⟨S1x16x64, .f32⟩
  | .hbm, ⟨57, _⟩ => ⟨S2x16x64, .f32⟩
  | .hbm, ⟨58, _⟩ => ⟨S2x16x64, .f32⟩
  | .hbm, ⟨59, _⟩ => ⟨S2x16x64, .f32⟩
  | .hbm, ⟨60, _⟩ => ⟨S2x16x64, .f32⟩
  | .hbm, ⟨61, _⟩ => ⟨S1x16x64, .f32⟩
  | .hbm, ⟨62, _⟩ => ⟨S2x16x64, .f32⟩
  | .hbm, ⟨63, _⟩ => ⟨S2x16x64, .f32⟩
  | .hbm, ⟨64, _⟩ => ⟨S1x16x64, .f32⟩
  | .hbm, ⟨65, _⟩ => ⟨S2x16x64, .f32⟩
  | .hbm, ⟨66, _⟩ => ⟨S2x16x64, .f32⟩
  | .hbm, ⟨67, _⟩ => ⟨S2x16x64, .f32⟩
  | .hbm, ⟨68, _⟩ => ⟨S2x16x64, .f32⟩
  | .hbm, ⟨69, _⟩ => ⟨S1x2x16x64, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S8192x2x16x64, .f32⟩
  | .hbm, ⟨74, _⟩ => ⟨S1x2x16x64, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S8192x2x16x64, .f32⟩
  | .hbm, ⟨79, _⟩ => ⟨S_, .i32⟩
  | .hbm, ⟨80, _⟩ => ⟨S_, .i32⟩
  | .hbm, ⟨81, _⟩ => ⟨S16x16x8192x2, .f32⟩
  | .hbm, ⟨82, _⟩ => ⟨S2x8192x16x16, .f32⟩
  | .hbm, ⟨83, _⟩ => ⟨S16x16x8192x2, .f32⟩
  | .hbm, ⟨84, _⟩ => ⟨S2x8192x16x16, .f32⟩
  | .hbm, ⟨85, _⟩ => ⟨S2x8192x16x16, .f32⟩
  | .hbm, ⟨86, _⟩ => ⟨S2x8192x256, .f32⟩
  | .hbm, ⟨87, _⟩ => ⟨S1x1x256, .f32⟩
  | .hbm, ⟨88, _⟩ => ⟨S2x8192x256, .f32⟩
  | .hbm, ⟨89, _⟩ => ⟨S2x8192x256, .f32⟩
  | .hbm, ⟨90, _⟩ => ⟨S2x8192x256, .f32⟩
  | .hbm, ⟨91, _⟩ => ⟨S2x8192x256, .f32⟩
  | .hbm, ⟨92, _⟩ => ⟨S2x8192x256, .f32⟩
  | .hbm, ⟨93, _⟩ => ⟨S_, .f32⟩
  | .hbm, ⟨94, _⟩ => ⟨S2x8192x256, .f32⟩
  | .hbm, ⟨95, _⟩ => ⟨S2x8192x256, .f32⟩
  | .hbm, ⟨96, _⟩ => ⟨S2x8192x256, .f32⟩
  | .hbm, ⟨97, _⟩ => ⟨S_, .f32⟩
  | .hbm, ⟨98, _⟩ => ⟨S2x8192x256, .f32⟩
  | .hbm, ⟨99, _⟩ => ⟨S2x8192x256, .f32⟩
  | .hbm, ⟨100, _⟩ => ⟨S2x8192x256, .f32⟩
  | .hbm, ⟨101, _⟩ => ⟨S_, .f32⟩
  | .hbm, ⟨102, _⟩ => ⟨S2x8192x256, .f32⟩
  | .hbm, ⟨103, _⟩ => ⟨S2x8192x256, .f32⟩
  | .hbm, ⟨104, _⟩ => ⟨S_, .f32⟩
  | .hbm, ⟨105, _⟩ => ⟨S2x8192x256, .f32⟩
  | .hbm, ⟨106, _⟩ => ⟨S2x8192x256, .f32⟩
  | .hbm, ⟨107, _⟩ => ⟨S2x8192x256, .f32⟩
  | .hbm, ⟨108, _⟩ => ⟨S2x8192x256, .f32⟩
  | .hbm, ⟨109, _⟩ => ⟨S1x1x256, .f32⟩
  | .hbm, ⟨110, _⟩ => ⟨S2x8192x256, .f32⟩
  | .hbm, ⟨111, _⟩ => ⟨S2x8192x256, .f32⟩
  | .hbm, ⟨112, _⟩ => ⟨S2x8192x256, .f32⟩
  | .hbm, ⟨113, _⟩ => ⟨S2x8192x256, .f32⟩
  | .hbm, ⟨114, _⟩ => ⟨S_, .f32⟩
  | .hbm, ⟨115, _⟩ => ⟨S2x8192x256, .f32⟩
  | .hbm, ⟨116, _⟩ => ⟨S2x8192x256, .f32⟩
  | .hbm, ⟨117, _⟩ => ⟨S_, .f32⟩
  | .hbm, ⟨118, _⟩ => ⟨S2x8192x256, .f32⟩
  | .hbm, ⟨119, _⟩ => ⟨S2x8192x256, .f32⟩
  | .hbm, ⟨120, _⟩ => ⟨S2x8192x256, .f32⟩
  | .hbm, ⟨121, _⟩ => ⟨S2x1024, .f32⟩
  | .hbm, ⟨122, _⟩ => ⟨S2x1024, .f32⟩
  | .hbm, ⟨123, _⟩ => ⟨S2x2048, .f32⟩
  | .hbm, ⟨124, _⟩ => ⟨S2x1x2048, .f32⟩
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_c : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v18_4 : Ref sig .tc := ⟨.hbm, 36, rfl⟩
abbrev main_v18_5 : Ref sig .tc := ⟨.hbm, 37, rfl⟩
abbrev main_v18_6 : Ref sig .tc := ⟨.hbm, 38, rfl⟩
abbrev main_v18_7 : Ref sig .tc := ⟨.hbm, 39, rfl⟩
abbrev main_v18_8 : Ref sig .tc := ⟨.hbm, 40, rfl⟩
abbrev main_while0c_c_16 : Ref sig .tc := ⟨.hbm, 41, rfl⟩
abbrev main_while0c_v57 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_c_1 : Ref sig .tc := ⟨.hbm, 45, rfl⟩
abbrev main_while0b_call0_v0 : Ref sig .tc := ⟨.hbm, 46, rfl⟩
abbrev main_while0b_v57 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_c_1 : Ref sig .tc := ⟨.hbm, 50, rfl⟩
abbrev main_while0b_call1_v0 : Ref sig .tc := ⟨.hbm, 51, rfl⟩
abbrev main_while0b_v58 : Ref sig .tc := ⟨.hbm, 52, rfl⟩
abbrev main_while0b_v59 : Ref sig .tc := ⟨.hbm, 53, rfl⟩
abbrev main_while0b_v60 : Ref sig .tc := ⟨.hbm, 54, rfl⟩
abbrev main_while0b_v61 : Ref sig .tc := ⟨.hbm, 55, rfl⟩
abbrev main_while0b_v62 : Ref sig .tc := ⟨.hbm, 56, rfl⟩
abbrev main_while0b_v63 : Ref sig .tc := ⟨.hbm, 57, rfl⟩
abbrev main_while0b_v64 : Ref sig .tc := ⟨.hbm, 58, rfl⟩
abbrev main_while0b_v65 : Ref sig .tc := ⟨.hbm, 59, rfl⟩
abbrev main_while0b_v66 : Ref sig .tc := ⟨.hbm, 60, rfl⟩
abbrev main_while0b_v67 : Ref sig .tc := ⟨.hbm, 61, rfl⟩
abbrev main_while0b_v68 : Ref sig .tc := ⟨.hbm, 62, rfl⟩
abbrev main_while0b_v69 : Ref sig .tc := ⟨.hbm, 63, rfl⟩
abbrev main_while0b_v70 : Ref sig .tc := ⟨.hbm, 64, rfl⟩
abbrev main_while0b_v71 : Ref sig .tc := ⟨.hbm, 65, rfl⟩
abbrev main_while0b_v72 : Ref sig .tc := ⟨.hbm, 66, rfl⟩
abbrev main_while0b_v73 : Ref sig .tc := ⟨.hbm, 67, rfl⟩
abbrev main_while0b_v74 : Ref sig .tc := ⟨.hbm, 68, rfl⟩
abbrev main_while0b_call2_v0 : Ref sig .tc := ⟨.hbm, 69, rfl⟩
abbrev main_while0b_call2_c : Ref sig .tc := ⟨.hbm, 70, rfl⟩
abbrev main_while0b_call2_c_0 : Ref sig .tc := ⟨.hbm, 71, rfl⟩
abbrev main_while0b_call2_c_1 : Ref sig .tc := ⟨.hbm, 72, rfl⟩
abbrev main_while0b_v75 : Ref sig .tc := ⟨.hbm, 73, rfl⟩
abbrev main_while0b_call3_v0 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_v76 : Ref sig .tc := ⟨.hbm, 78, rfl⟩
abbrev main_while0b_c_16 : Ref sig .tc := ⟨.hbm, 79, rfl⟩
abbrev main_while0b_v77 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_cst_2 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_3 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_cst_4 : Ref sig .tc := ⟨.hbm, 101, rfl⟩
abbrev main_v37 : Ref sig .tc := ⟨.hbm, 102, rfl⟩
abbrev main_v38 : Ref sig .tc := ⟨.hbm, 103, rfl⟩
abbrev main_cst_5 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_cst_6 : Ref sig .tc := ⟨.hbm, 114, rfl⟩
abbrev main_v48 : Ref sig .tc := ⟨.hbm, 115, rfl⟩
abbrev main_v49 : Ref sig .tc := ⟨.hbm, 116, rfl⟩
abbrev main_cst_7 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩

abbrev nD : Nat := 1
abbrev τ : Topo := Topo.v7x

variable {F : FTy → Type} [FloatOps F]

abbrev main_while0_count : Scf.Loop 32 := ⟨0#32, 8192#32, 1#32⟩
-- ==== Kernel3.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S2x3x3x1024 : Shape := ⟨4, ![2, 3, 3, 1024]⟩
abbrev S3x1024 : Shape := ⟨2, ![3, 1024]⟩
abbrev S1024x1024 : Shape := ⟨2, ![1024, 1024]⟩
abbrev S2x1024x5632 : Shape := ⟨3, ![2, 1024, 5632]⟩
abbrev S2x2816x1024 : Shape := ⟨3, ![2, 2816, 1024]⟩
abbrev S16384x1024 : Shape := ⟨2, ![16384, 1024]⟩
abbrev S16384x256 : Shape := ⟨2, ![16384, 256]⟩
abbrev S16384x512 : Shape := ⟨2, ![16384, 512]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S256x1024 : Shape := ⟨2, ![256, 1024]⟩
abbrev S256x256 : Shape := ⟨2, ![256, 256]⟩
abbrev S256x512 : Shape := ⟨2, ![256, 512]⟩
abbrev S1x1x1024 : Shape := ⟨3, ![1, 1, 1024]⟩
abbrev S512x1024 : Shape := ⟨2, ![512, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 43
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x512, .f32⟩
  | .hbm, ⟨3, _⟩ => ⟨S2x8192x256, .f32⟩
  | .hbm, ⟨4, _⟩ => ⟨S2x3x3x1024, .f32⟩
  | .hbm, ⟨5, _⟩ => ⟨S3x1024, .f32⟩
  | .hbm, ⟨6, _⟩ => ⟨S3x1024, .f32⟩
  | .hbm, ⟨7, _⟩ => ⟨S1024x1024, .f32⟩
  | .hbm, ⟨8, _⟩ => ⟨S2x1024x5632, .f32⟩
  | .hbm, ⟨9, _⟩ => ⟨S2x2816x1024, .f32⟩
  | .hbm, ⟨10, _⟩ => ⟨S16384x1024, .f32⟩
  | .hbm, ⟨11, _⟩ => ⟨S16384x256, .f32⟩
  | .hbm, ⟨12, _⟩ => ⟨S16384x512, .f32⟩
  | .hbm, ⟨13, _⟩ => ⟨S16384x256, .f32⟩
  | .hbm, ⟨14, _⟩ => ⟨S2x1x1x1024, .f32⟩
  | .hbm, ⟨15, _⟩ => ⟨S2x1024, .f32⟩
  | .hbm, ⟨16, _⟩ => ⟨S2x1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024x1024, .bf16⟩
  | .hbm, ⟨21, _⟩ => ⟨S2x1x1x1024, .f32⟩
  | .hbm, ⟨22, _⟩ => ⟨S2x1024, .f32⟩
  | .hbm, ⟨23, _⟩ => ⟨S2x1x1024, .f32⟩
  | .hbm, ⟨24, _⟩ => ⟨S2x1x1x1024, .f32⟩
  | .hbm, ⟨25, _⟩ => ⟨S2x1024, .f32⟩
  | .hbm, ⟨26, _⟩ => ⟨S2x1x1024, .f32⟩
  | .hbm, ⟨27, _⟩ => ⟨S2x1x1x1024, .f32⟩
  | .hbm, ⟨28, _⟩ => ⟨S2x1024, .f32⟩
  | .hbm, ⟨29, _⟩ => ⟨S2x1x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1x1024x5632, .f32⟩
  | .hbm, ⟨37, _⟩ => ⟨S1024x5632, .f32⟩
  | .hbm, ⟨38, _⟩ => ⟨S1024x5632, .bf16⟩
  | .hbm, ⟨39, _⟩ => ⟨S1x2816x1024, .f32⟩
  | .hbm, ⟨40, _⟩ => ⟨S2816x1024, .f32⟩
  | .hbm, ⟨41, _⟩ => ⟨S2816x1024, .bf16⟩
  | .hbm, ⟨42, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1024, .f32⟩
  | .local _ .vmem, ⟨20, _⟩ => ⟨S1024x5632, .bf16⟩
  | .local _ .vmem, ⟨21, _⟩ => ⟨S2816x1024, .bf16⟩
  | .local _ .vmem, ⟨22, _⟩ => ⟨S256x1024, .f32⟩
  | .local _ .vmem, ⟨23, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S2x3x3x1024 : Shape := ⟨4, ![2, 3, 3, 1024]⟩
abbrev S3x1024 : Shape := ⟨2, ![3, 1024]⟩
abbrev S1024x1024 : Shape := ⟨2, ![1024, 1024]⟩
abbrev S2x1024x5632 : Shape := ⟨3, ![2, 1024, 5632]⟩
abbrev S2x2816x1024 : Shape := ⟨3, ![2, 2816, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S_ : Shape := ⟨0, ![]⟩
abbrev S1x1024 : Shape := ⟨2, ![1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 116
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x512, .f32⟩
  | .hbm, ⟨3, _⟩ => ⟨S2x8192x256, .f32⟩
  | .hbm, ⟨4, _⟩ => ⟨S2x3x3x1024, .f32⟩
  | .hbm, ⟨5, _⟩ => ⟨S3x1024, .f32⟩
  | .hbm, ⟨6, _⟩ => ⟨S3x1024, .f32⟩
  | .hbm, ⟨7, _⟩ => ⟨S1024x1024, .f32⟩
  | .hbm, ⟨8, _⟩ => ⟨S2x1024x5632, .f32⟩
  | .hbm, ⟨9, _⟩ => ⟨S2x2816x1024, .f32⟩
  | .hbm, ⟨10, _⟩ => ⟨S2x8192x1024, .f32⟩
  | .hbm, ⟨11, _⟩ => ⟨S2x8192x1024, .f32⟩
  | .hbm, ⟨12, _⟩ => ⟨S2x1x1x1024, .f32⟩
  | .hbm, ⟨13, _⟩ => ⟨S2x1024, .f32⟩
  | .hbm, ⟨14, _⟩ => ⟨S2x1x1024, .f32⟩
  | .hbm, ⟨15, _⟩ => ⟨S_, .f32⟩
  | .hbm, ⟨16, _⟩ => ⟨S2x1x1024, .f32⟩
  | .hbm, ⟨17, _⟩ => ⟨S2x1x1024, .f32⟩
  | .hbm, ⟨18, _⟩ => ⟨S1x1024, .f32⟩
  | .hbm, ⟨19, _⟩ => ⟨S1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S1x1024, .f32⟩
  | .hbm, ⟨40, _⟩ => ⟨S1024, .f32⟩
  | .hbm, ⟨41, _⟩ => ⟨S2x8192x1024, .f32⟩
  | .hbm, ⟨42, _⟩ => ⟨S_, .f32⟩
  | .hbm, ⟨43, _⟩ => ⟨S2x8192, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x1, .f32⟩
  | .hbm, ⟨52, _⟩ => ⟨S2x8192x1024, .f32⟩
  | .hbm, ⟨53, _⟩ => ⟨S2x8192x1024, .f32⟩
  | .hbm, ⟨54, _⟩ => ⟨S1x1x1024, .f32⟩
  | .hbm, ⟨55, _⟩ => ⟨S2x8192x1024, .f32⟩
  | .hbm, ⟨56, _⟩ => ⟨S2x8192x1024, .f32⟩
  | .hbm, ⟨57, _⟩ => ⟨S2x1x1x1024, .f32⟩
  | .hbm, ⟨58, _⟩ => ⟨S2x1024, .f32⟩
  | .hbm, ⟨59, _⟩ => ⟨S2x1x1024, .f32⟩
  | .hbm, ⟨60, _⟩ => ⟨S_, .f32⟩
  | .hbm, ⟨61, _⟩ => ⟨S2x1x1024, .f32⟩
  | .hbm, ⟨62, _⟩ => ⟨S2x1x1024, .f32⟩
  | .hbm, ⟨63, _⟩ => ⟨S2x8192x1024, .f32⟩
  | .hbm, ⟨64, _⟩ => ⟨S2x8192x1024, .f32⟩
  | .hbm, ⟨65, _⟩ => ⟨S2x1x1x1024, .f32⟩
  | .hbm, ⟨66, _⟩ => ⟨S2x1024, .f32⟩
  | .hbm, ⟨67, _⟩ => ⟨S2x1x1024, .f32⟩
  | .hbm, ⟨68, _⟩ => ⟨S2x8192x1024, .f32⟩
  | .hbm, ⟨69, _⟩ => ⟨S2x8192x1024, .f32⟩
  | .hbm, ⟨70, _⟩ => ⟨S1x1024x5632, .f32⟩
  | .hbm, ⟨71, _⟩ => ⟨S1024x5632, .f32⟩
  | .hbm, ⟨72, _⟩ => ⟨S1x2816x1024, .f32⟩
  | .hbm, ⟨73, _⟩ => ⟨S2816x1024, .f32⟩
  | .hbm, ⟨74, _⟩ => ⟨S2x8192x5632, .f32⟩
  | .hbm, ⟨75, _⟩ => ⟨S2x8192x2816, .f32⟩
  | .hbm, ⟨76, _⟩ => ⟨S2x8192x2816, .f32⟩
  | .hbm, ⟨77, _⟩ => ⟨S2x8192x2816, .f32⟩
  | .hbm, ⟨78, _⟩ => ⟨S2x8192x2816, .f32⟩
  | .hbm, ⟨79, _⟩ => ⟨S_, .f32⟩
  | .hbm, ⟨80, _⟩ => ⟨S2x8192x2816, .f32⟩
  | .hbm, ⟨81, _⟩ => ⟨S2x8192x2816, .f32⟩
  | .hbm, ⟨82, _⟩ => ⟨S_, .f32⟩
  | .hbm, ⟨83, _⟩ => ⟨S2x8192x2816, .f32⟩
  | .hbm, ⟨84, _⟩ => ⟨S2x8192x2816, .f32⟩
  | .hbm, ⟨85, _⟩ => ⟨S2x8192x2816, .f32⟩
  | .hbm, ⟨86, _⟩ => ⟨S2x8192x2816, .f32⟩
  | .hbm, ⟨87, _⟩ => ⟨S2x8192x1024, .f32⟩
  | .hbm, ⟨88, _⟩ => ⟨S2x1x1x1024, .f32⟩
  | .hbm, ⟨89, _⟩ => ⟨S2x1024, .f32⟩
  | .hbm, ⟨90, _⟩ => ⟨S2x1x1024, .f32⟩
  | .hbm, ⟨91, _⟩ => ⟨S_, .f32⟩
  | .hbm, ⟨92, _⟩ => ⟨S2x1x1024, .f32⟩
  | .hbm, ⟨93, _⟩ => ⟨S2x1x1024, .f32⟩
  | .hbm, ⟨94, _⟩ => ⟨S1x1024, .f32⟩
  | .hbm, ⟨95, _⟩ => ⟨S1024, .f32⟩
  | .hbm, ⟨96, _⟩ => ⟨S2x8192x1024, .f32⟩
  | .hbm, ⟨97, _⟩ => ⟨S_, .f32⟩
  | .hbm, ⟨98, _⟩ => ⟨S2x8192, .f32⟩
  | .hbm, ⟨99, _⟩ => ⟨S2x8192x1, .f32⟩
  | .hbm, ⟨100, _⟩ => ⟨S_, .f32⟩
  | .hbm, ⟨101, _⟩ => ⟨S2x8192x1, .f32⟩
  | .hbm, ⟨102, _⟩ => ⟨S2x8192x1, .f32⟩
  | .hbm, ⟨103, _⟩ => ⟨S_, .f32⟩
  | .hbm, ⟨104, _⟩ => ⟨S2x8192x1, .f32⟩
  | .hbm, ⟨105, _⟩ => ⟨S2x8192x1, .f32⟩
  | .hbm, ⟨106, _⟩ => ⟨S2x8192x1, .f32⟩
  | .hbm, ⟨107, _⟩ => ⟨S2x8192x1024, .f32⟩
  | .hbm, ⟨108, _⟩ => ⟨S2x8192x1024, .f32⟩
  | .hbm, ⟨109, _⟩ => ⟨S1x1x1024, .f32⟩
  | .hbm, ⟨110, _⟩ => ⟨S2x8192x1024, .f32⟩
  | .hbm, ⟨111, _⟩ => ⟨S2x8192x1024, .f32⟩
  | .hbm, ⟨112, _⟩ => ⟨S2x8192x1024, .f32⟩
  | .hbm, ⟨113, _⟩ => ⟨S2x8192x1024, .f32⟩
  | .hbm, ⟨114, _⟩ => ⟨S2x8192x1024, .f32⟩
  | .hbm, ⟨115, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_7 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_8 : Ref sig .tc := ⟨.hbm, 97, rfl⟩
abbrev main_v70 : Ref sig .tc := ⟨.hbm, 98, rfl⟩
abbrev main_v71 : Ref sig .tc := ⟨.hbm, 99, rfl⟩
abbrev main_cst_9 : Ref sig .tc := ⟨.hbm, 100, rfl⟩
abbrev main_v72 : Ref sig .tc := ⟨.hbm, 101, rfl⟩
abbrev main_v73 : Ref sig .tc := ⟨.hbm, 102, rfl⟩
abbrev main_cst_10 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x3x3x1024 : Shape := ⟨4, ![2, 3, 3, 1024]⟩
abbrev S3x1024 : Shape := ⟨2, ![3, 1024]⟩
abbrev S2x1024x5632 : Shape := ⟨3, ![2, 1024, 5632]⟩
abbrev S2x2816x1024 : Shape := ⟨3, ![2, 2816, 1024]⟩
abbrev S16384x1024 : Shape := ⟨2, ![16384, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 29
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x3x3x1024, .f32⟩
  | .hbm, ⟨2, _⟩ => ⟨S3x1024, .f32⟩
  | .hbm, ⟨3, _⟩ => ⟨S3x1024, .f32⟩
  | .hbm, ⟨4, _⟩ => ⟨S2x1024x5632, .f32⟩
  | .hbm, ⟨5, _⟩ => ⟨S2x2816x1024, .f32⟩
  | .hbm, ⟨6, _⟩ => ⟨S16384x1024, .f32⟩
  | .hbm, ⟨7, _⟩ => ⟨S2x1x1x1024, .f32⟩
  | .hbm, ⟨8, _⟩ => ⟨S2x1024, .f32⟩
  | .hbm, ⟨9, _⟩ => ⟨S2x1x1024, .f32⟩
  | .hbm, ⟨10, _⟩ => ⟨S2x1x1x1024, .f32⟩
  | .hbm, ⟨11, _⟩ => ⟨S2x1024, .f32⟩
  | .hbm, ⟨12, _⟩ => ⟨S2x1x1024, .f32⟩
  | .hbm, ⟨13, _⟩ => ⟨S2x1x1x1024, .f32⟩
  | .hbm, ⟨14, _⟩ => ⟨S2x1024, .f32⟩
  | .hbm, ⟨15, _⟩ => ⟨S2x1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024x5632, .f32⟩
  | .hbm, ⟨23, _⟩ => ⟨S1024x5632, .f32⟩
  | .hbm, ⟨24, _⟩ => ⟨S1024x5632, .bf16⟩
  | .hbm, ⟨25, _⟩ => ⟨S1x2816x1024, .f32⟩
  | .hbm, ⟨26, _⟩ => ⟨S2816x1024, .f32⟩
  | .hbm, ⟨27, _⟩ => ⟨S2816x1024, .bf16⟩
  | .hbm, ⟨28, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S2x8192x1024 : Shape := ⟨3, ![2, 8192, 1024]⟩
abbrev S2x3x3x1024 : Shape := ⟨4, ![2, 3, 3, 1024]⟩
abbrev S3x1024 : Shape := ⟨2, ![3, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x3x3x1024, .f32⟩
  | .hbm, ⟨2, _⟩ => ⟨S3x1024, .f32⟩
  | .hbm, ⟨3, _⟩ => ⟨S3x1024, .f32⟩
  | .hbm, ⟨4, _⟩ => ⟨S2x1024x5632, .f32⟩
  | .hbm, ⟨5, _⟩ => ⟨S2x2816x1024, .f32⟩
  | .hbm, ⟨6, _⟩ => ⟨S1x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x1x1x1024, .f32⟩
  | .hbm, ⟨25, _⟩ => ⟨S2x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S2x1x1x1024, .f32⟩
  | .hbm, ⟨33, _⟩ => ⟨S2x1024, .f32⟩
  | .hbm, ⟨34, _⟩ => ⟨S2x1x1024, .f32⟩
  | .hbm, ⟨35, _⟩ => ⟨S2x8192x1024, .f32⟩
  | .hbm, ⟨36, _⟩ => ⟨S2x8192x1024, .f32⟩
  | .hbm, ⟨37, _⟩ => ⟨S1x1024x5632, .f32⟩
  | .hbm, ⟨38, _⟩ => ⟨S1024x5632, .f32⟩
  | .hbm, ⟨39, _⟩ => ⟨S1x2816x1024, .f32⟩
  | .hbm, ⟨40, _⟩ => ⟨S2816x1024, .f32⟩
  | .hbm, ⟨41, _⟩ => ⟨S2x8192x5632, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S_, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x1024, .f32⟩
  | .hbm, ⟨55, _⟩ => ⟨S2x1x1x1024, .f32⟩
  | .hbm, ⟨56, _⟩ => ⟨S2x1024, .f32⟩
  | .hbm, ⟨57, _⟩ => ⟨S2x1x1024, .f32⟩
  | .hbm, ⟨58, _⟩ => ⟨S_, .f32⟩
  | .hbm, ⟨59, _⟩ => ⟨S2x1x1024, .f32⟩
  | .hbm, ⟨60, _⟩ => ⟨S2x1x1024, .f32⟩
  | .hbm, ⟨61, _⟩ => ⟨S1x1024, .f32⟩
  | .hbm, ⟨62, _⟩ => ⟨S1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x3x3x1024 : Shape := ⟨4, ![2, 3, 3, 1024]⟩
abbrev S3x1024 : Shape := ⟨2, ![3, 1024]⟩
abbrev S1024x3012 : Shape := ⟨2, ![1024, 3012]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x1024 : Shape := ⟨2, ![16384, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024 : Shape := ⟨2, ![1, 1024]⟩
abbrev S1024 : Shape := ⟨1, ![1024]⟩
abbrev S1024x60 : Shape := ⟨2, ![1024, 60]⟩
abbrev S1024x2048 : Shape := ⟨2, ![1024, 2048]⟩
abbrev S1024x896 : Shape := ⟨2, ![1024, 896]⟩
abbrev S1024x68 : Shape := ⟨2, ![1024, 68]⟩
abbrev S1024x3072 : Shape := ⟨2, ![1024, 3072]⟩
abbrev S16384x256 : Shape := ⟨2, ![16384, 256]⟩
abbrev S16384x512 : Shape := ⟨2, ![16384, 512]⟩
abbrev S16384x128 : Shape := ⟨2, ![16384, 128]⟩
abbrev S16384x896 : Shape := ⟨2, ![16384, 896]⟩
abbrev S2x512x8192 : Shape := ⟨3, ![2, 512, 8192]⟩
abbrev S2x128x8192 : Shape := ⟨3, ![2, 128, 8192]⟩
abbrev S256x1024 : Shape := ⟨2, ![256, 1024]⟩
abbrev S1x1x1024 : Shape := ⟨3, ![1, 1, 1024]⟩
abbrev S256x128 : Shape := ⟨2, ![256, 128]⟩
abbrev S256x256 : Shape := ⟨2, ![256, 256]⟩
abbrev S256x512 : Shape := ⟨2, ![256, 512]⟩
abbrev S256x896 : Shape := ⟨2, ![256, 896]⟩
abbrev S1x512x256 : Shape := ⟨3, ![1, 512, 256]⟩
abbrev S1x128x256 : Shape := ⟨3, ![1, 128, 256]⟩
abbrev S256 : Shape := ⟨1, ![256]⟩
abbrev S256x1 : Shape := ⟨2, ![256, 1]⟩
abbrev S256x3072 : Shape := ⟨2, ![256, 3072]⟩
abbrev S128x256 : Shape := ⟨2, ![128, 256]⟩
abbrev S512x256 : Shape := ⟨2, ![512, 256]⟩

abbrev nBuf : Space → Nat
  | .hbm => 61
  | .vmem => 40
  | .smem => 0
  | _ => 0

abbrev bufTy : (tb : Table) → Fin (tcTables nBuf tb) → BufTy
  | .hbm, ⟨0, _⟩ => ⟨S2x8192x1024, .f32⟩
  | .hbm, ⟨1, _⟩ => ⟨S2x3x3x1024, .f32⟩
  | .hbm, ⟨2, _⟩ => ⟨S3x1024, .f32⟩
  | .hbm, ⟨3, _⟩ => ⟨S1024x3012, .f32⟩
  | .hbm, ⟨4, _⟩ => ⟨S8192, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S8192, .f32⟩
  | .hbm, ⟨14, _⟩ => ⟨S8192x1, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x64, .f32⟩
  | .hbm, ⟨22, _⟩ => ⟨S1x8192x1x64, .f32⟩
  | .hbm, ⟨23, _⟩ => ⟨S1x8192x2x64, .f32⟩
  | .hbm, ⟨24, _⟩ => ⟨S8192x128, .f32⟩
  | .hbm, ⟨25, _⟩ => ⟨S8192x32, .f32⟩
  | .hbm, ⟨26, _⟩ => ⟨S8192x64, .f32⟩
  | .hbm, ⟨27, _⟩ => ⟨S1x8192x1x64, .f32⟩
  | .hbm, ⟨28, _⟩ => ⟨S1x8192x2x64, .f32⟩
  | .hbm, ⟨29, _⟩ => ⟨S8192x128, .f32⟩
  | .hbm, ⟨30, _⟩ => ⟨S16384x1024, .f32⟩
  | .hbm, ⟨31, _⟩ => ⟨S2x1x1x1024, .f32⟩
  | .hbm, ⟨32, _⟩ => ⟨S2x1024, .f32⟩
  | .hbm, ⟨33, _⟩ => ⟨S2x1x1024, .f32⟩
  | .hbm, ⟨34, _⟩ => ⟨S2x1x1x1024, .f32⟩
  | .hbm, ⟨35, _⟩ => ⟨S2x1024, .f32⟩
  | .hbm, ⟨36, _⟩ => ⟨S2x1x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S_, .f32⟩
  | .hbm, ⟨41, _⟩ => ⟨S1024x60, .f32⟩
  | .hbm, ⟨42, _⟩ => ⟨S1024x2048, .f32⟩
  | .hbm, ⟨43, _⟩ => ⟨S1024x896, .f32⟩
  | .hbm, ⟨44, _⟩ => ⟨S1024x68, .f32⟩
  | .hbm, ⟨45, _⟩ => ⟨S1024x3072, .f32⟩
  | .hbm, ⟨46, _⟩ => ⟨S1024x3072, .bf16⟩
  | .hbm, ⟨47, _⟩ => ⟨S16384x256, .f32⟩
  | .hbm, ⟨48, _⟩ => ⟨S16384x512, .bf16⟩
  | .hbm, ⟨49, _⟩ => ⟨S16384x512, .f32⟩
  | .hbm, ⟨50, _⟩ => ⟨S16384x512, .bf16⟩
  | .hbm, ⟨51, _⟩ => ⟨S16384x512, .f32⟩
  | .hbm, ⟨52, _⟩ => ⟨S16384x512, .bf16⟩
  | .hbm, ⟨53, _⟩ => ⟨S16384x1024, .bf16⟩
  | .hbm, ⟨54, _⟩ => ⟨S16384x128, .f32⟩
  | .hbm, ⟨55, _⟩ => ⟨S16384x256, .bf16⟩
  | .hbm, ⟨56, _⟩ => ⟨S16384x896, .f32⟩
  | .hbm, ⟨57, _⟩ => ⟨S2x512x8192, .bf16⟩
  | .hbm, ⟨58, _⟩ => ⟨S2x512x8192, .f32⟩
  | .hbm, ⟨59, _⟩ => ⟨S2x512x8192, .f32⟩
  | .hbm, ⟨60, _⟩ => ⟨S2x128x8192, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x256, .f32⟩
  | .local _ .vmem, ⟨13, _⟩ => ⟨S256x256, .f32⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x1024, .bf16⟩
  | .local _ .vmem, ⟨25, _⟩ => ⟨S256x1024, .bf16⟩
  | .local _ .vmem, ⟨26, _⟩ => ⟨S256x128, .f32⟩
  | .local _ .vmem, ⟨27, _⟩ => ⟨S256x128, .f32⟩
  | .local _ .vmem, ⟨28, _⟩ => ⟨S256x256, .bf16⟩
  | .local _ .vmem, ⟨29, _⟩ => ⟨S256x256, .bf16⟩
  | .local _ .vmem, ⟨30, _⟩ => ⟨S256x896, .f32⟩
  | .local _ .vmem, ⟨31, _⟩ => ⟨S256x896, .f32⟩
  | .local _ .vmem, ⟨32, _⟩ => ⟨S1x512x256, .bf16⟩
  | .local _ .vmem, ⟨33, _⟩ => ⟨S1x512x256, .bf16⟩
  | .local _ .vmem, ⟨34, _⟩ => ⟨S1x512x256, .f32⟩
  | .local _ .vmem, ⟨35, _⟩ => ⟨S1x512x256, .f32⟩
  | .local _ .vmem, ⟨36, _⟩ => ⟨S1x512x256, .f32⟩
  | .local _ .vmem, ⟨37, _⟩ => ⟨S1x512x256, .f32⟩
  | .local _ .vmem, ⟨38, _⟩ => ⟨S1x128x256, .f32⟩
  | .local _ .vmem, ⟨39, _⟩ => ⟨S1x128x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40_0 : Ref sig .tc := ⟨.hbm, 47, rfl⟩
abbrev main_v40_1 : Ref sig .tc := ⟨.hbm, 48, rfl⟩
abbrev main_v40_2 : Ref sig .tc := ⟨.hbm, 49, rfl⟩
abbrev main_v40_3 : Ref sig .tc := ⟨.hbm, 50, rfl⟩
abbrev main_v40_4 : Ref sig .tc := ⟨.hbm, 51, rfl⟩
abbrev main_v40_5 : Ref sig .tc := ⟨.hbm, 52, rfl⟩
abbrev main_v40_6 : Ref sig .tc := ⟨.hbm, 53, rfl⟩
abbrev main_v40_7 : Ref sig .tc := ⟨.hbm, 54, rfl⟩
abbrev main_v40_8 : Ref sig .tc := ⟨.hbm, 55, rfl⟩
abbrev main_v40_9 : Ref sig .tc := ⟨.hbm, 56, rfl⟩
abbrev main_v40_10 : Ref sig .tc := ⟨.hbm, 57, rfl⟩
abbrev main_v40_11 : Ref sig .tc := ⟨.hbm, 58, rfl⟩
abbrev main_v40_12 : Ref sig .tc := ⟨.hbm, 59, rfl⟩
abbrev main_v40_13 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_20 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x896 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference5Ideal.lean ====
abbrev S2x8192x1024 : Shape := ⟨3, ![2, 8192, 1024]⟩
abbrev S2x3x3x1024 : Shape := ⟨4, ![2, 3, 3, 1024]⟩
abbrev S3x1024 : Shape := ⟨2, ![3, 1024]⟩
abbrev S1024x3012 : Shape := ⟨2, ![1024, 3012]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S2x8192x3012 : Shape := ⟨3, ![2, 8192, 3012]⟩
abbrev S8192 : Shape := ⟨1, ![8192]⟩
abbrev S2x8192x256 : Shape := ⟨3, ![2, 8192, 256]⟩
abbrev S2x8192x512 : Shape := ⟨3, ![2, 8192, 512]⟩
abbrev S2x8192x8x64 : Shape := ⟨4, ![2, 8192, 8, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x8x32 : Shape := ⟨4, ![2, 8192, 8, 32]⟩
abbrev S2x8192x64 : Shape := ⟨3, ![2, 8192, 64]⟩
abbrev S1x8192x32 : Shape := ⟨3, ![1, 8192, 32]⟩
abbrev S2x8192x32 : Shape := ⟨3, ![2, 8192, 32]⟩
abbrev S2x8192x4 : Shape := ⟨3, ![2, 8192, 4]⟩
abbrev S2x8192x896 : Shape := ⟨3, ![2, 8192, 896]⟩
abbrev S2x8192x60 : Shape := ⟨3, ![2, 8192, 60]⟩
abbrev S2x8192x128 : Shape := ⟨3, ![2, 8192, 128]⟩
abbrev S16384x256 : Shape := ⟨2, ![16384, 256]⟩
abbrev S16384x512 : Shape := ⟨2, ![16384, 512]⟩
abbrev S16384x896 : Shape := ⟨2, ![16384, 896]⟩
abbrev S2x512x8192 : Shape := ⟨3, ![2, 512, 8192]⟩
abbrev S2x128x8192 : Shape := ⟨3, ![2, 128, 8192]⟩

abbrev nBuf : Space → Nat
  | .hbm => 157
  | .vmem => 0
  | .smem => 0
  | _ => 0

abbrev hbmTy0_0 (i : Nat) : BufTy := match i % 128 with
  | 0 => ⟨S2x8192x1024, .f32⟩
  | 1 => ⟨S2x3x3x1024, .f32⟩
  | 2 => ⟨S3x1024, .f32⟩
  | 3 => ⟨S1024x3012, .f32⟩
  | 4 => ⟨S1x1024, .f32⟩
  | 5 => ⟨S1024, .f32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S1x1x1024, .f32⟩
  | 20 => ⟨S2x8192x1024, .f32⟩
  | 21 => ⟨S2x8192x1024, .f32⟩
  | 22 => ⟨S2x1x1x1024, .f32⟩
  | 23 => ⟨S2x1024, .f32⟩
  | 24 => ⟨S2x1x1024, .f32⟩
  | 25 => ⟨S_, .f32⟩
  | 26 => ⟨S2x1x1024, .f32⟩
  | 27 => ⟨S2x1x1024, .f32⟩
  | 28 => ⟨S2x8192x1024, .f32⟩
  | 29 => ⟨S2x8192x1024, .f32⟩
  | 30 => ⟨S2x1x1x1024, .f32⟩
  | 31 => ⟨S2x1024, .f32⟩
  | 32 => ⟨S2x1x1024, .f32⟩
  | 33 => ⟨S2x8192x1024, .f32⟩
  | 34 => ⟨S2x8192x1024, .f32⟩
  | 35 => ⟨S2x8192x3012, .f32⟩
  | 36 => ⟨S8192, .i32⟩
  | 37 => ⟨S2x8192x256, .f32⟩
  | 38 => ⟨S2x8192x512, .f32⟩
  | 39 => ⟨S2x8192x8x64, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S8192, .f32⟩
  | 49 => ⟨S8192x1, .f32⟩
  | 50 => ⟨S1x32, .f32⟩
  | 51 => ⟨S8192x32, .f32⟩
  | 52 => ⟨S8192x32, .f32⟩
  | 53 => ⟨S8192x32, .f32⟩
  | 54 => ⟨S8192x32, .f32⟩
  | 55 => ⟨S1x8192x1x32, .f32⟩
  | 56 => ⟨S8192x32, .f32⟩
  | 57 => ⟨S1x8192x1x32, .f32⟩
  | 58 => ⟨S2x8192x8x32, .f32⟩
  | 59 => ⟨S2x8192x8x32, .f32⟩
  | 60 => ⟨S2x8192x8x32, .f32⟩
  | 61 => ⟨S2x8192x8x32, .f32⟩
  | 62 => ⟨S2x8192x8x32, .f32⟩
  | 63 => ⟨S2x8192x8x32, .f32⟩
  | 64 => ⟨S2x8192x8x32, .f32⟩
  | 65 => ⟨S2x8192x8x32, .f32⟩
  | 66 => ⟨S2x8192x8x32, .f32⟩
  | 67 => ⟨S2x8192x8x32, .f32⟩
  | 68 => ⟨S2x8192x8x32, .f32⟩
  | 69 => ⟨S2x8192x8x32, .f32⟩
  | 70 => ⟨S2x8192x8x64, .f32⟩
  | 71 => ⟨S_, .f32⟩
  | 72 => ⟨S2x8192x8x64, .f32⟩
  | 73 => ⟨S2x8192x8x64, .f32⟩
  | 74 => ⟨S2x8192x512, .f32⟩
  | 75 => ⟨S2x8192x8x64, .f32⟩
  | 76 => ⟨S32, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S8192, .f32⟩
  | 85 => ⟨S8192x1, .f32⟩
  | 86 => ⟨S1x32, .f32⟩
  | 87 => ⟨S8192x32, .f32⟩
  | 88 => ⟨S8192x32, .f32⟩
  | 89 => ⟨S8192x32, .f32⟩
  | 90 => ⟨S8192x32, .f32⟩
  | 91 => ⟨S1x8192x1x32, .f32⟩
  | 92 => ⟨S8192x32, .f32⟩
  | 93 => ⟨S1x8192x1x32, .f32⟩
  | 94 => ⟨S2x8192x8x32, .f32⟩
  | 95 => ⟨S2x8192x8x32, .f32⟩
  | 96 => ⟨S2x8192x8x32, .f32⟩
  | 97 => ⟨S2x8192x8x32, .f32⟩
  | 98 => ⟨S2x8192x8x32, .f32⟩
  | 99 => ⟨S2x8192x8x32, .f32⟩
  | 100 => ⟨S2x8192x8x32, .f32⟩
  | 101 => ⟨S2x8192x8x32, .f32⟩
  | 102 => ⟨S2x8192x8x32, .f32⟩
  | 103 => ⟨S2x8192x8x32, .f32⟩
  | 104 => ⟨S2x8192x8x32, .f32⟩
  | 105 => ⟨S2x8192x8x32, .f32⟩
  | 106 => ⟨S2x8192x8x64, .f32⟩
  | 107 => ⟨S2x8192x512, .f32⟩
  | 108 => ⟨S2x8192x64, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S8192, .f32⟩
  | 118 => ⟨S8192x1, .f32⟩
  | 119 => ⟨S1x32, .f32⟩
  | 120 => ⟨S8192x32, .f32⟩
  | 121 => ⟨S8192x32, .f32⟩
  | 122 => ⟨S8192x32, .f32⟩
  | 123 => ⟨S8192x32, .f32⟩
  | 124 => ⟨S1x8192x32, .f32⟩
  | 125 => ⟨S8192x32, .f32⟩
  | 126 => ⟨S1x8192x32, .f32⟩
  | 127 => ⟨S2x8192x32, .f32⟩
  | _ => ⟨S2x8192x1024, .f32⟩

abbrev hbmTy0_1 (i : Nat) : BufTy := match i % 128 with
  | 0 => ⟨S2x8192x32, .f32⟩
  | 1 => ⟨S2x8192x32, .f32⟩
  | 2 => ⟨S2x8192x32, .f32⟩
  | 3 => ⟨S2x8192x32, .f32⟩
  | 4 => ⟨S2x8192x32, .f32⟩
  | 5 => ⟨S2x8192x32, .f32⟩
  | 6 => ⟨S2x8192x32, .f32⟩
  | 7 => ⟨S2x8192x32, .f32⟩
  | 8 => ⟨S2x8192x32, .f32⟩
  | 9 => ⟨S2x8192x32, .f32⟩
  | 10 => ⟨S2x8192x32, .f32⟩
  | 11 => ⟨S2x8192x64, .f32⟩
  | 12 => ⟨S2x8192x4, .f32⟩
  | 13 => ⟨S2x8192x896, .f32⟩
  | 14 => ⟨S_, .f32⟩
  | 15 => ⟨S2x8192x60, .f32⟩
  | 16 => ⟨S2x8192x128, .f32⟩
  | 17 => ⟨S16384x256, .f32⟩
  | 18 => ⟨S16384x512, .f32⟩
  | 19 => ⟨S16384x512, .bf16⟩
  | 20 => ⟨S16384x512, .f32⟩
  | 21 => ⟨S16384x512, .bf16⟩
  | 22 => ⟨S16384x896, .f32⟩
  | 23 => ⟨S2x512x8192, .f32⟩
  | 24 => ⟨S2x512x8192, .bf16⟩
  | 25 => ⟨S2x8192x512, .f32⟩
  | 26 => ⟨S2x512x8192, .f32⟩
  | 27 => ⟨S2x512x8192, .f32⟩
  | 28 => ⟨S2x128x8192, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_5 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_6 : Ref sig .tc := ⟨.hbm, 78, rfl⟩
abbrev main_v67 : Ref sig .tc := ⟨.hbm, 79, rfl⟩
abbrev main_v68 : Ref sig .tc := ⟨.hbm, 80, rfl⟩
abbrev main_cst_7 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_8 : Ref sig .tc := ⟨.hbm, 111, rfl⟩
abbrev main_v98 : Ref sig .tc := ⟨.hbm, 112, rfl⟩
abbrev main_v99 : Ref sig .tc := ⟨.hbm, 113, rfl⟩
abbrev main_cst_9 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_cst_10 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩

abbrev nD : Nat := 1
abbrev τ : Topo := Topo.v7x

variable {F : FTy → Type} [FloatOps F]
-- ==== Proof.Rows.lean ====
module

public import Idealize.ShloMosaic.Lib.Pointwise

@[expose] public section

noncomputable section

/-! The layer's row operations at the ideal scalars, one token at a time. -/

namespace Cert.Proof.Rows

open Idealize.ShloMosaic

/-- The factor a row is divided by in the root-mean-square norm. -/
def rms (x : Fin 1024 → EReal) : EReal :=
  Ideal.rsqrt (Ideal.div (∑ k, x k * x k) (Ideal.ofBits FTy.f32 1149239296#32) + Ideal.ofBits FTy.f32 897988541#32)

/-- The norm with its weights, then the modulation's scale and shift. -/
def pre (x g sc sh : Fin 1024 → EReal) (k : Fin 1024) : EReal := x k * rms x * g k * (1 + sc k) + sh k

/-- The residual sum: `w` times the gate times the normed branch. -/
def resid (x o gate g : Fin 1024 → EReal) (w : EReal) (k : Fin 1024) : EReal := x k + w * gate k * (o k * rms o * g k)

/-- The gated activation. -/
def act (a b : EReal) : EReal := a * Ideal.div 1 (1 + Ideal.exp (-a)) * b

/-- The gated MLP: the first half of the hidden row is the gate, the second half the value. -/
def glu (h : Fin 1024 → EReal) (wg wu : Fin 1024 → Fin 2816 → EReal) (wo : Fin 2816 → Fin 1024 → EReal)
    (k : Fin 1024) : EReal :=
  ∑ j, act (∑ i, h i * wg i j) (∑ i, h i * wu i j) * wo j k

/-- The output projection: the three branches side by side against the weight's three row blocks. -/
def outproj (a : Fin 256 → EReal) (b : Fin 512 → EReal) (c : Fin 256 → EReal) (w : Fin 1024 → Fin 1024 → EReal)
    (k : Fin 1024) : EReal :=
  ∑ j, a j * w ⟨j.val, by omega⟩ k + ∑ j, b j * w ⟨256 + j.val, by omega⟩ k + ∑ j, c j * w ⟨768 + j.val, by omega⟩ k

end Cert.Proof.Rows
-- ==== Proof.OutffnRef.lean ====
module

public import proofs.«01_k».proof.Proof.Gen.Reference3Ideal.Run
public import proofs.«01_k».proof.Proof.Rows

@[expose] public section

set_option maxRecDepth 16384

noncomputable section

/-! The output projection and the second macaron FFN of the reference, one token at a time. -/

namespace Cert.Proof.OutffnRef

open Idealize.ShloMosaic Idealize.ShloMosaic.TcCoe Idealize.SL.Sem
open Cert.Reference3Ideal Cert.Reference3Ideal.Gen Cert.Reference3Ideal.Value Cert.Proof.Rows

variable (V0 : Valuation τ sig (Elt Ideal))

/-- Argument `r` of the program as an array. -/
abbrev arg (r : Ref sig .tc) := V0 (Proc.devRef .tc r)

theorem proj_at (b : Fin 2) (s : Fin 8192) (k : Fin 1024) :
    res_main_v1 V0 (ix3 b s k) = outproj (fun j => arg V0 main_arg1 (ix3 b s j)) (fun j => arg V0 main_arg2 (ix3 b s j))
      (fun j => arg V0 main_arg3 (ix3 b s j)) (fun j k => arg V0 main_arg7 (ix2 j k)) k := by
  unfold res_main_v1 outproj arg
  pointwise
  rw [Fin.sum_univ_two_halves 256 768 rfl, Fin.sum_univ_two_halves 512 256 rfl (fun _ : Fin 768 => _), ← add_assoc]
  refine congrArg₂ _ (congrArg₂ _ (Finset.sum_congr rfl fun j _ => ?_) (Finset.sum_congr rfl fun j _ => ?_))
    (Finset.sum_congr rfl fun j _ => ?_)
  · rw [dif_pos j.isLt]
  · rw [dif_neg (by simp), dif_pos (by simp)]
    simp
  · rw [dif_neg (by simp), dif_neg (by simp)]
    refine congrArg₂ _ (congrArg _ (congrArg (ix3 b s) (Fin.ext (by show 256 + (512 + j.val) - 256 - 512 = j.val; omega))))
      (congrArg _ (congrArg (fun x => ix2 x k) (Fin.ext (by show 256 + (512 + j.val) = 768 + j.val; omega))))

theorem mid_at (b : Fin 2) (s : Fin 8192) (k : Fin 1024) :
    res_main_v24 V0 (ix3 b s k) = resid (fun k => arg V0 main_arg0 (ix3 b s k)) (fun k => res_main_v1 V0 (ix3 b s k))
      (fun k => arg V0 main_arg4 (ix4 b 1 2 k)) (fun k => arg V0 main_arg6 (ix2 1 k)) 1 k := by
  unfold res_main_v24 resid rms
  pointwise

theorem mlp_at (b : Fin 2) (s : Fin 8192) (k : Fin 1024) :
    res_main_v61 V0 (ix3 b s k) = glu (pre (fun k => res_main_v24 V0 (ix3 b s k)) (fun k => arg V0 main_arg5 (ix2 2 k))
      (fun k => arg V0 main_arg4 (ix4 b 2 1 k)) (fun k => arg V0 main_arg4 (ix4 b 2 0 k)))
      (fun i j => arg V0 main_arg8 (ix3 1 i ⟨j.val, by omega⟩))
      (fun i j => arg V0 main_arg8 (ix3 1 i ⟨2816 + j.val, by omega⟩)) (fun j k => arg V0 main_arg9 (ix3 1 j k)) k := by
  unfold res_main_v61 res_main_v57 res_main_v56 glu act pre rms
  pointwise

theorem out_at (R : Fin 16384) (k : Fin 1024) :
    val2 V0 (Proc.devRef .tc main_v85) (ix2 R k) =
      resid (fun k => res_main_v24 V0 (ix3 ⟨R.val / 8192, by omega⟩ ⟨R.val % 8192, by omega⟩ k))
      (fun k => res_main_v61 V0 (ix3 ⟨R.val / 8192, by omega⟩ ⟨R.val % 8192, by omega⟩ k))
      (fun k => arg V0 main_arg4 (ix4 ⟨R.val / 8192, by omega⟩ 2 2 k)) (fun k => arg V0 main_arg6 (ix2 2 k))
      (Ideal.ofBits FTy.f32 1056964608#32) k := by
  refine (congrFun (val2_main_v85 V0) _).trans ?_
  unfold resid rms
  pointwise

end Cert.Proof.OutffnRef
-- ==== Proof.Outffn.lean ====
module

public import proofs.«01_k».proof.Defs
public import proofs.«01_k».proof.Proof.Gen.Kernel3Ideal.Value
public import proofs.«01_k».proof.Proof.OutffnRef
public import Idealize.ShloMosaic.Lib.Pipeline.ValueKit
public import Idealize.ShloMosaic.Lib.Pointwise

@[expose] public section

set_option maxRecDepth 16384

noncomputable section

/-! The output projection and the second macaron FFN: the kernel's blocks and the reference's array. -/

namespace Cert.Proof.Outffn

open Idealize.ShloMosaic Idealize.ShloMosaic.TcCoe Idealize.SL.Sem
open Cert.Kernel3Ideal Cert.Kernel3Ideal.Gen Cert.Proof.Rows

section Body
variable (x0 : Vec Ideal S256x1024 .f32) (x1 : Vec Ideal S256x256 .f32) (x2 : Vec Ideal S256x512 .f32)
  (x3 : Vec Ideal S256x256 .f32) (x4 : Vec Ideal S1x1x1024 .f32) (x5 : Vec Ideal S1x1024 .f32)
  (wa : Vec Ideal S256x1024 .bf16) (wb : Vec Ideal S512x1024 .bf16) (wc : Vec Ideal S256x1024 .bf16)
  (x7 x8 x9 : Vec Ideal S1x1x1024 .f32) (x10 x11 : Vec Ideal S1x1024 .f32)
  (wg wu : Vec Ideal S1024x2816 .bf16) (x13 : Vec Ideal S2816x1024 .bf16)

/-- The output projection of one row of the block. -/
abbrev o1 (r : Fin 256) (k : Fin 1024) : EReal :=
  ∑ j, x1 (ix2 r j) * wa (ix2 j k) + ∑ j, x2 (ix2 r j) * wb (ix2 j k) + ∑ j, x3 (ix2 r j) * wc (ix2 j k)

theorem proj_at (r : Fin 256) (k : Fin 1024) : k0_pay2 x1 wa x2 wb x3 wc (ix2 r k) = o1 x1 x2 x3 wa wb wc r k := by
  unfold k0_pay2
  pointwise

theorem rms_at (r : Fin 256) : k0_pay6 x1 wa x2 wb x3 wc (ix2 r 0) = rms (o1 x1 x2 x3 wa wb wc r) := by
  unfold k0_pay6 rms
  pointwise
  simp only [proj_at]

variable (o xr : FVec Ideal S256x1024 .f32) (gt gp : FVec Ideal S1x1024 .f32) (q : FVec Ideal S256x1 .f32)

theorem pre_at (r : Fin 256) (k : Fin 1024) : k0_pay8 o xr gt gp q x10 x8 x7 (ix2 r k) =
    pre (fun k => k0_pay7 o xr gt gp q (ix2 r k)) (fun k => x10 (ix2 0 k)) (fun k => x8 (ix3 0 0 k))
      (fun k => x7 (ix3 0 0 k)) k := by
  unfold k0_pay8 pre rms
  pointwise

theorem out_at (r : Fin 256) (k : Fin 1024) :
    k0_pay1 (k0_pay7 o xr gt gp q) (k0_pay9 o xr gt gp q x10 x8 x7 wg) (k0_pay10 o xr gt gp q x10 x8 x7 wu)
      (k0_pay11 o xr gt gp q x10 x8 x7 wg) x13 x9 x11 (ix2 r k) =
    resid (fun k => k0_pay7 o xr gt gp q (ix2 r k))
      (glu (pre (fun k => k0_pay7 o xr gt gp q (ix2 r k)) (fun k => x10 (ix2 0 k)) (fun k => x8 (ix3 0 0 k))
        (fun k => x7 (ix3 0 0 k))) (fun i j => wg (ix2 i j)) (fun i j => wu (ix2 i j)) (fun j k => x13 (ix2 j k)))
      (fun k => x9 (ix3 0 0 k)) (fun k => x11 (ix2 0 k)) (Ideal.ofBits FTy.f32 1056964608#32) k := by
  unfold k0_pay1 k0_pay9 k0_pay10 k0_pay11 resid rms glu act k0_pay9
  pointwise
  simp only [pre_at, zero_sub]

theorem mid_at (r : Fin 256) (k : Fin 1024) :
    k0_pay7 (k0_pay2 x1 wa x2 wb x3 wc) (k0_pay3 x0) (k0_pay4 x4) (k0_pay5 x5) (k0_pay6 x1 wa x2 wb x3 wc) (ix2 r k) =
    resid (fun k => x0 (ix2 r k)) (o1 x1 x2 x3 wa wb wc r) (fun k => x4 (ix3 0 0 k)) (fun k => x5 (ix2 0 k)) 1 k := by
  unfold k0_pay7 k0_pay3 k0_pay4 k0_pay5 resid
  pointwise
  simp only [proj_at, rms_at, one_mul]

end Body

variable (m : (ℓ : Loc nD τ sig) → Buf (Elt Ideal) ℓ)

theorem idx : ∀ t : Fin grid0.N, win0_0.index t = ![t.val, 0] ∧ win0_1.index t = ![t.val, 0] ∧
    win0_2.index t = ![t.val, 0] ∧ win0_3.index t = ![t.val, 0] ∧ win0_4.index t = ![t.val / 32, 0, 0] ∧
    win0_5.index t = ![0, 0] ∧ win0_6.index t = ![0, 0] ∧ win0_7.index t = ![t.val / 32, 0, 0] ∧
    win0_8.index t = ![t.val / 32, 0, 0] ∧ win0_9.index t = ![t.val / 32, 0, 0] ∧ win0_10.index t = ![0, 0] ∧
    win0_11.index t = ![0, 0] ∧ win0_12.index t = ![0, 0] ∧ win0_13.index t = ![0, 0] ∧ win0_14.index t = ![t.val, 0] := by
  decide +kernel

variable (c : Dev nD) (t : Fin cfg0.N)

theorem lt : t.val < 64 := t.isLt

/-! What each window's block holds of the arguments. -/

theorem x_at (r : Fin 256) (k : Fin 1024) : iblk m c 0 t (ix2 r k) = m ((c.tc : Thread nD τ).loc main_arg0)
    (ix3 ⟨(256 * t.val + r.val) / 8192, by have := lt t; omega⟩ ⟨(256 * t.val + r.val) % 8192, by omega⟩ k) := by
  have := lt t
  blk_ext! [iblk, V, idx t]
theorem ys5_at (r : Fin 256) (k : Fin 256) : iblk m c 1 t (ix2 r k) = m ((c.tc : Thread nD τ).loc main_arg1)
    (ix3 ⟨(256 * t.val + r.val) / 8192, by have := lt t; omega⟩ ⟨(256 * t.val + r.val) % 8192, by omega⟩ k) := by
  have := lt t
  blk_ext! [iblk, V, idx t]
theorem yatt_at (r : Fin 256) (k : Fin 512) : iblk m c 2 t (ix2 r k) = m ((c.tc : Thread nD τ).loc main_arg2)
    (ix3 ⟨(256 * t.val + r.val) / 8192, by have := lt t; omega⟩ ⟨(256 * t.val + r.val) % 8192, by omega⟩ k) := by
  have := lt t
  blk_ext! [iblk, V, idx t]
theorem yrw_at (r : Fin 256) (k : Fin 256) : iblk m c 3 t (ix2 r k) = m ((c.tc : Thread nD τ).loc main_arg3)
    (ix3 ⟨(256 * t.val + r.val) / 8192, by have := lt t; omega⟩ ⟨(256 * t.val + r.val) % 8192, by omega⟩ k) := by
  have := lt t
  blk_ext! [iblk, V, idx t]
theorem gate1_at (r : Fin 256) (k : Fin 1024) : iblk m c 4 t (ix3 0 0 k) = m ((c.tc : Thread nD τ).loc main_arg4)
    (ix4 ⟨(256 * t.val + r.val) / 8192, by have := lt t; omega⟩ 1 2 k) := by
  have := lt t
  blk_ext! [iblk, V, idx t]
theorem gpost1_at (k : Fin 1024) : iblk m c 5 t (ix2 0 k) = m ((c.tc : Thread nD τ).loc main_arg6) (ix2 1 k) := by
  blk_ext! [iblk, V, idx t]
theorem wout_at (j k : Fin 1024) : iblk m c 6 t (ix2 j k) = m ((c.tc : Thread nD τ).loc main_arg7) (ix2 j k) := by
  blk_ext! [iblk, V, idx t]
theorem shift_at (r : Fin 256) (k : Fin 1024) : iblk m c 7 t (ix3 0 0 k) = m ((c.tc : Thread nD τ).loc main_arg4)
    (ix4 ⟨(256 * t.val + r.val) / 8192, by have := lt t; omega⟩ 2 0 k) := by
  have := lt t
  blk_ext! [iblk, V, idx t]
theorem scale_at (r : Fin 256) (k : Fin 1024) : iblk m c 8 t (ix3 0 0 k) = m ((c.tc : Thread nD τ).loc main_arg4)
    (ix4 ⟨(256 * t.val + r.val) / 8192, by have := lt t; omega⟩ 2 1 k) := by
  have := lt t
  blk_ext! [iblk, V, idx t]
theorem gate2_at (r : Fin 256) (k : Fin 1024) : iblk m c 9 t (ix3 0 0 k) = m ((c.tc : Thread nD τ).loc main_arg4)
    (ix4 ⟨(256 * t.val + r.val) / 8192, by have := lt t; omega⟩ 2 2 k) := by
  have := lt t
  blk_ext! [iblk, V, idx t]
theorem gpre_at (k : Fin 1024) : iblk m c 10 t (ix2 0 k) = m ((c.tc : Thread nD τ).loc main_arg5) (ix2 2 k) := by
  blk_ext! [iblk, V, idx t]
theorem gpost2_at (k : Fin 1024) : iblk m c 11 t (ix2 0 k) = m ((c.tc : Thread nD τ).loc main_arg6) (ix2 2 k) := by
  blk_ext! [iblk, V, idx t]
theorem wi_at (i : Fin 1024) (j : Fin 5632) : iblk m c 12 t (ix2 i j) = m ((c.tc : Thread nD τ).loc main_arg8) (ix3 1 i j) := by
  blk_ext! [iblk, V, idx t]
theorem wo_at (j : Fin 2816) (k : Fin 1024) : iblk m c 13 t (ix2 j k) = m ((c.tc : Thread nD τ).loc main_arg9) (ix3 1 j k) := by
  blk_ext! [iblk, V, idx t]

/-! A load of some rows or columns of a block, at an index. -/

theorem ld_wg (w : Vec Ideal S1024x5632 .bf16) (i : Fin 1024) (j : Fin 2816) :
    View.ld w r0_8 (ix2 i j) = w (ix2 i ⟨j.val, by omega⟩) := by
  refine congrArg w ?_
  blk_ext
  · show 0 + 1 * i.val = i.val; omega
  · show 0 + 1 * j.val = j.val; omega
theorem ld_wu (w : Vec Ideal S1024x5632 .bf16) (i : Fin 1024) (j : Fin 2816) :
    View.ld w r0_9 (ix2 i j) = w (ix2 i ⟨2816 + j.val, by omega⟩) := by
  refine congrArg w ?_
  blk_ext
  · show 0 + 1 * i.val = i.val; omega
  · show 2816 + 1 * j.val = 2816 + j.val; omega
theorem ld_wa (w : Vec Ideal S1024x1024 .bf16) (i : Fin 256) (k : Fin 1024) :
    View.ld w r0_1 (ix2 i k) = w (ix2 ⟨i.val, by omega⟩ k) := by
  refine congrArg w ?_
  blk_ext
  · show 0 + 1 * i.val = i.val; omega
  · show 0 + 1 * k.val = k.val; omega
theorem ld_wb (w : Vec Ideal S1024x1024 .bf16) (i : Fin 512) (k : Fin 1024) :
    View.ld w r0_3 (ix2 i k) = w (ix2 ⟨256 + i.val, by omega⟩ k) := by
  refine congrArg w ?_
  blk_ext
  · show 256 + 1 * i.val = 256 + i.val; omega
  · show 0 + 1 * k.val = k.val; omega
theorem ld_wc (w : Vec Ideal S1024x1024 .bf16) (i : Fin 256) (k : Fin 1024) :
    View.ld w r0_4 (ix2 i k) = w (ix2 ⟨768 + i.val, by omega⟩ k) := by
  refine congrArg w ?_
  blk_ext
  · show 768 + 1 * i.val = 768 + i.val; omega
  · show 0 + 1 * k.val = k.val; omega

theorem wg_at (i : Fin 1024) (j : Fin 2816) : View.ld (iblk m c 12 t) r0_8 (ix2 i j) =
    m ((c.tc : Thread nD τ).loc main_arg8) (ix3 1 i ⟨j.val, by omega⟩) := (ld_wg _ i j).trans (wi_at m c t i _)
theorem wu_at (i : Fin 1024) (j : Fin 2816) : View.ld (iblk m c 12 t) r0_9 (ix2 i j) =
    m ((c.tc : Thread nD τ).loc main_arg8) (ix3 1 i ⟨2816 + j.val, by omega⟩) := (ld_wu _ i j).trans (wi_at m c t i _)
theorem wa_at (j : Fin 256) (k : Fin 1024) : View.ld (iblk m c 6 t) r0_1 (ix2 j k) =
    m ((c.tc : Thread nD τ).loc main_arg7) (ix2 ⟨j.val, by omega⟩ k) := (ld_wa _ j k).trans (wout_at m c t _ k)
theorem wb_at (j : Fin 512) (k : Fin 1024) : View.ld (iblk m c 6 t) r0_3 (ix2 j k) =
    m ((c.tc : Thread nD τ).loc main_arg7) (ix2 ⟨256 + j.val, by omega⟩ k) := (ld_wb _ j k).trans (wout_at m c t _ k)
theorem wc_at (j : Fin 256) (k : Fin 1024) : View.ld (iblk m c 6 t) r0_4 (ix2 j k) =
    m ((c.tc : Thread nD τ).loc main_arg7) (ix2 ⟨768 + j.val, by omega⟩ k) := (ld_wc _ j k).trans (wout_at m c t _ k)

theorem o1_at (r : Fin 256) : o1 (iblk m c 1 t) (iblk m c 2 t) (iblk m c 3 t) (View.ld (iblk m c 6 t) r0_1)
      (View.ld (iblk m c 6 t) r0_3) (View.ld (iblk m c 6 t) r0_4) r =
    fun k => outproj
      (fun j => m ((c.tc : Thread nD τ).loc main_arg1)
        (ix3 ⟨(256 * t.val + r.val) / 8192, by have := lt t; omega⟩ ⟨(256 * t.val + r.val) % 8192, by omega⟩ j))
      (fun j => m ((c.tc : Thread nD τ).loc main_arg2)
        (ix3 ⟨(256 * t.val + r.val) / 8192, by have := lt t; omega⟩ ⟨(256 * t.val + r.val) % 8192, by omega⟩ j))
      (fun j => m ((c.tc : Thread nD τ).loc main_arg3)
        (ix3 ⟨(256 * t.val + r.val) / 8192, by have := lt t; omega⟩ ⟨(256 * t.val + r.val) % 8192, by omega⟩ j))
      (fun j k => m ((c.tc : Thread nD τ).loc main_arg7) (ix2 j k)) k := by
  funext k
  unfold o1 outproj
  simp only [ys5_at, yatt_at, yrw_at, wa_at, wb_at, wc_at]

theorem out_idx (r : Fin 256) (k : Fin 1024) :
    (win0_14.blk t).view.emb (ix2 r k) = ix2 (⟨256 * t.val + r.val, by have := lt t; omega⟩ : Fin 16384) k := by
  have := lt t
  blk_ext [idx t]

variable (V0 : Valuation Cert.Reference3Ideal.τ Cert.Reference3Ideal.sig (Elt Ideal))

/-- The reference's result. -/
abbrev whole : FVec Ideal S16384x1024 .f32 :=
  Cert.Reference3Ideal.Value.val2 V0 (Proc.devRef .tc Cert.Reference3Ideal.main_v85)

theorem final (h0 : OutffnRef.arg V0 Cert.Reference3Ideal.main_arg0 = m ((c.tc : Thread nD τ).loc main_arg0))
    (h1 : OutffnRef.arg V0 Cert.Reference3Ideal.main_arg1 = m ((c.tc : Thread nD τ).loc main_arg1))
    (h2 : OutffnRef.arg V0 Cert.Reference3Ideal.main_arg2 = m ((c.tc : Thread nD τ).loc main_arg2))
    (h3 : OutffnRef.arg V0 Cert.Reference3Ideal.main_arg3 = m ((c.tc : Thread nD τ).loc main_arg3))
    (h4 : OutffnRef.arg V0 Cert.Reference3Ideal.main_arg4 = m ((c.tc : Thread nD τ).loc main_arg4))
    (h5 : OutffnRef.arg V0 Cert.Reference3Ideal.main_arg5 = m ((c.tc : Thread nD τ).loc main_arg5))
    (h6 : OutffnRef.arg V0 Cert.Reference3Ideal.main_arg6 = m ((c.tc : Thread nD τ).loc main_arg6))
    (h7 : OutffnRef.arg V0 Cert.Reference3Ideal.main_arg7 = m ((c.tc : Thread nD τ).loc main_arg7))
    (h8 : OutffnRef.arg V0 Cert.Reference3Ideal.main_arg8 = m ((c.tc : Thread nD τ).loc main_arg8))
    (h9 : OutffnRef.arg V0 Cert.Reference3Ideal.main_arg9 = m ((c.tc : Thread nD τ).loc main_arg9)) :
    (dats m 0 c).arrAt 14 cfg0.N = whole V0 := by
  refine (dats m 0 c).arrAt_eq_of_covers 14 _ (by decide +kernel) fun t hf y => ?_
  blk_simp
  rw [after0_14]
  frame_out [k0_pay12, k0_pay13, k0_pay14, k0_pay15, k0_pay16]
  idx_vars y
  rw [out_at]
  unfold whole
  rw [out_idx, OutffnRef.out_at]
  simp only [OutffnRef.mlp_at, OutffnRef.mid_at, OutffnRef.proj_at, mid_at, h0, h1, h2, h3, h4, h5, h6, h7, h8, h9,
    o1_at, wg_at, wu_at, x_at, gate1_at m c t y0, gpost1_at, wout_at, shift_at m c t y0,
    scale_at m c t y0, gate2_at m c t y0, gpre_at, gpost2_at, wo_at]

theorem algebraic : Cert.algebraic_Kernel3Ideal_Reference3Ideal := by
  pair_intro
  · run_from Value.run_blocks m g
  · run_from Cert.Reference3Ideal.Value.run m' g'
    obtain ⟨e0, e1, e2, e3, e4, e5, e6, e7, e8, e9⟩ := hagree c
    rw [final m c (StableHlo.launchContents m' c) e0 e1 e2 e3 e4 e5 e6 e7 e8 e9]
    rw [← e4, ← e6]
    exact (Cert.Reference3Ideal.Value.val2_main_v85 (StableHlo.launchContents m' c)).symm

end Cert.Proof.Outffn
-- ==== Proof.FfnRef.lean ====
module

public import proofs.«01_k».proof.Proof.Gen.Reference4Ideal.Run
public import proofs.«01_k».proof.Proof.Rows

@[expose] public section

set_option maxRecDepth 16384

noncomputable section

/-! The first macaron FFN of the reference, one token at a time. -/

namespace Cert.Proof.FfnRef

open Idealize.ShloMosaic Idealize.ShloMosaic.TcCoe Idealize.SL.Sem
open Cert.Reference4Ideal Cert.Reference4Ideal.Gen Cert.Proof.Rows

/-- The normed and modulated tokens. -/
def preT (A0 : FVec Ideal S2x8192x1024 .f32) (A1 : FVec Ideal S2x3x3x1024 .f32) (A2 : FVec Ideal S3x1024 .f32) :
    FVec Ideal S2x8192x1024 .f32 :=
  addf (mulf (mulf (mulf A0 (broadcastInDim S2x8192x1024 ![0, 1, 2] bcast_S2x8192x1_S2x8192x1024_0_1_2 (Host.rsqrt
    (addf (Host.divf (broadcastInDim S2x8192x1 ![0, 1] bcast_S2x8192_S2x8192x1_0_1 (Host.reduceAdd (mulf A0 A0)
    (constant S_ .f32 0x00000000#32) reducesTo_S2x8192x1024_S2x8192_d2 h_S_)) (broadcastInDim S2x8192x1 ![]
    bcast_S_S2x8192x1 (constant S_ .f32 0x44800000#32))) (broadcastInDim S2x8192x1 ![] bcast_S_S2x8192x1 (constant S_
    .f32 0x358637BD#32)))))) (broadcastInDim S2x8192x1024 ![0, 1, 2] bcast_S1x1x1024_S2x8192x1024_0_1_2
    (broadcastInDim S1x1x1024 ![2] bcast_S1024_S1x1x1024_2 (shapeCast _ (extractStridedSlice S1x1024 ![0, 0] A2
    slices_S3x1024_S1x1024_0_0) shapeCasts_S1x1024_S1024)))) (broadcastInDim S2x8192x1024 ![0, 1, 2]
    bcast_S2x1x1024_S2x8192x1024_0_1_2 (addf (broadcastInDim S2x1x1024 ![] bcast_S_S2x1x1024 (constant S_ .f32
    0x3F800000#32)) (broadcastInDim S2x1x1024 ![0, 2] bcast_S2x1024_S2x1x1024_0_2 (shapeCast _ (extractStridedSlice
    S2x1x1x1024 ![0, 0, 1, 0] A1 slices_S2x3x3x1024_S2x1x1x1024_0_0_1_0) shapeCasts_S2x1x1x1024_S2x1024)))))
    (broadcastInDim S2x8192x1024 ![0, 1, 2] bcast_S2x1x1024_S2x8192x1024_0_1_2 (broadcastInDim S2x1x1024 ![0, 2]
    bcast_S2x1024_S2x1x1024_0_2 (shapeCast _ (extractStridedSlice S2x1x1x1024 ![0, 0, 0, 0] A1
    slices_S2x3x3x1024_S2x1x1x1024_0_0_0_0) shapeCasts_S2x1x1x1024_S2x1024)))

/-- The hidden rows, gate and value side by side. -/
def hidT (P : FVec Ideal S2x8192x1024 .f32) (A4 : FVec Ideal S2x1024x5632 .f32) : FVec Ideal S2x8192x5632 .f32 :=
  Host.dotGeneral dot_S2x8192x1024_S1024x5632_S2x8192x5632_2_0_01_1_n_n none P (shapeCast _ (extractStridedSlice
    S1x1024x5632 ![0, 0, 0] A4 slices_S2x1024x5632_S1x1024x5632_0_0_0) shapeCasts_S1x1024x5632_S1024x5632)

/-- The MLP's output. -/
def mlpT (H : FVec Ideal S2x8192x5632 .f32) (A5 : FVec Ideal S2x2816x1024 .f32) : FVec Ideal S2x8192x1024 .f32 :=
  Host.dotGeneral dot_S2x8192x2816_S2816x1024_S2x8192x1024_2_0_01_1_n_n none (mulf (mulf (extractStridedSlice
    S2x8192x2816 ![0, 0, 0] H slices_S2x8192x5632_S2x8192x2816_0_0_0) (Host.divf (broadcastInDim S2x8192x2816 ![]
    bcast_S_S2x8192x2816 (constant S_ .f32 0x3F800000#32)) (addf (broadcastInDim S2x8192x2816 ![] bcast_S_S2x8192x2816
    (constant S_ .f32 0x3F800000#32)) (Host.exp (Host.negf (extractStridedSlice S2x8192x2816 ![0, 0, 0] H
    slices_S2x8192x5632_S2x8192x2816_0_0_0)))))) (extractStridedSlice S2x8192x2816 ![0, 0, 2816] H
    slices_S2x8192x5632_S2x8192x2816_0_0_2816)) (shapeCast _ (extractStridedSlice S1x2816x1024 ![0, 0, 0] A5
    slices_S2x2816x1024_S1x2816x1024_0_0_0) shapeCasts_S1x2816x1024_S2816x1024)

/-- The residual sum. -/
def postT (A0 O : FVec Ideal S2x8192x1024 .f32) (A1 : FVec Ideal S2x3x3x1024 .f32) (A3 : FVec Ideal S3x1024 .f32) :
    FVec Ideal S16384x1024 .f32 :=
  shapeCast _ (addf A0 (mulf (broadcastInDim S2x8192x1024 ![0, 1, 2] bcast_S2x1x1024_S2x8192x1024_0_1_2 (mulf
    (broadcastInDim S2x1x1024 ![] bcast_S_S2x1x1024 (constant S_ .f32 0x3F000000#32)) (broadcastInDim S2x1x1024 ![0,
    2] bcast_S2x1024_S2x1x1024_0_2 (shapeCast _ (extractStridedSlice S2x1x1x1024 ![0, 0, 2, 0] A1
    slices_S2x3x3x1024_S2x1x1x1024_0_0_2_0) shapeCasts_S2x1x1x1024_S2x1024)))) (mulf (mulf O (broadcastInDim
    S2x8192x1024 ![0, 1, 2] bcast_S2x8192x1_S2x8192x1024_0_1_2 (Host.rsqrt (addf (Host.divf (broadcastInDim S2x8192x1
    ![0, 1] bcast_S2x8192_S2x8192x1_0_1 (Host.reduceAdd (mulf O O) (constant S_ .f32 0x00000000#32)
    reducesTo_S2x8192x1024_S2x8192_d2 h_S_)) (broadcastInDim S2x8192x1 ![] bcast_S_S2x8192x1 (constant S_ .f32
    0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2]
    bcast_S1024_S1x1x1024_2 (shapeCast _ (extractStridedSlice S1x1024 ![0, 0] A3 slices_S3x1024_S1x1024_0_0)
    shapeCasts_S1x1024_S1024)))))) shapeCasts_S2x8192x1024_S16384x1024

variable (A0 : FVec Ideal S2x8192x1024 .f32) (A1 : FVec Ideal S2x3x3x1024 .f32) (A2 A3 : FVec Ideal S3x1024 .f32)
  (A4 : FVec Ideal S2x1024x5632 .f32) (A5 : FVec Ideal S2x2816x1024 .f32)

theorem pre_at (b : Fin 2) (s : Fin 8192) (k : Fin 1024) :
    preT A0 A1 A2 (ix3 b s k) = pre (fun k => A0 (ix3 b s k)) (fun k => A2 (ix2 0 k)) (fun k => A1 (ix4 b 0 1 k))
      (fun k => A1 (ix4 b 0 0 k)) k := by
  unfold preT pre rms
  pointwise

theorem mlp_at (b : Fin 2) (s : Fin 8192) (k : Fin 1024) (P : FVec Ideal S2x8192x1024 .f32) :
    mlpT (hidT P A4) A5 (ix3 b s k) = glu (fun k => P (ix3 b s k)) (fun i j => A4 (ix3 0 i ⟨j.val, by omega⟩))
      (fun i j => A4 (ix3 0 i ⟨2816 + j.val, by omega⟩)) (fun j k => A5 (ix3 0 j k)) k := by
  unfold mlpT hidT glu act
  pointwise
  done

theorem post_at (O : FVec Ideal S2x8192x1024 .f32) (R : Fin 16384) (k : Fin 1024) :
    postT A0 O A1 A3 (ix2 R k) = resid (fun k => A0 (ix3 ⟨R.val / 8192, by omega⟩ ⟨R.val % 8192, by omega⟩ k))
      (fun k => O (ix3 ⟨R.val / 8192, by omega⟩ ⟨R.val % 8192, by omega⟩ k))
      (fun k => A1 (ix4 ⟨R.val / 8192, by omega⟩ 0 2 k)) (fun k => A3 (ix2 0 k)) (Ideal.ofBits FTy.f32 1056964608#32) k := by
  unfold postT resid rms
  pointwise
  done

theorem out_eq (m : (ℓ : Loc nD τ sig) → Buf (Elt Ideal) ℓ) (c : Dev nD) :
    Value.res_out0 m c = (postT (m ((c.tc : Thread nD τ).loc main_arg0))
      (mlpT (hidT (preT (m ((c.tc : Thread nD τ).loc main_arg0)) (m ((c.tc : Thread nD τ).loc main_arg1))
        (m ((c.tc : Thread nD τ).loc main_arg2))) (m ((c.tc : Thread nD τ).loc main_arg4)))
        (m ((c.tc : Thread nD τ).loc main_arg5)))
      (m ((c.tc : Thread nD τ).loc main_arg1)) (m ((c.tc : Thread nD τ).loc main_arg3)) : FVec Ideal S16384x1024 .f32) := rfl

end Cert.Proof.FfnRef
-- ==== Proof.Ffn.lean ====
module

public import proofs.«01_k».proof.Defs
public import proofs.«01_k».proof.Proof.Gen.Kernel4Ideal.Value
public import proofs.«01_k».proof.Proof.FfnRef
public import Idealize.ShloMosaic.Lib.Pipeline.ValueKit
public import Idealize.ShloMosaic.Lib.Pointwise

@[expose] public section

set_option maxRecDepth 16384

noncomputable section

/-! The first macaron FFN: the kernel's blocks and the reference's array. -/

namespace Cert.Proof.Ffn

open Idealize.ShloMosaic Idealize.ShloMosaic.TcCoe Idealize.SL.Sem
open Cert.Kernel4Ideal Cert.Kernel4Ideal.Gen Cert.Proof.Rows

theorem pre_at (x : Vec Ideal S256x1024 .f32) (g : Vec Ideal S1x1024 .f32) (sc sh : Vec Ideal S1x1x1024 .f32)
    (r : Fin 256) (k : Fin 1024) : k0_pay3 x g sc sh (ix2 r k) = pre (fun k => x (ix2 r k)) (fun k => g (ix2 0 k))
      (fun k => sc (ix3 0 0 k)) (fun k => sh (ix3 0 0 k)) k := by
  unfold k0_pay3 k0_pay2 pre rms
  pointwise

/-- The block the body writes, at one row and column. -/
theorem out_at (x : Vec Ideal S256x1024 .f32) (g0 g1 : Vec Ideal S1x1024 .f32) (sc sh gate : Vec Ideal S1x1x1024 .f32)
    (wg wu : Vec Ideal S1024x2816 .bf16) (wo : Vec Ideal S2816x1024 .bf16) (r : Fin 256) (k : Fin 1024) :
    k0_pay1 (k0_pay2 x) (k0_pay4 x g0 sc sh wg) (k0_pay5 x g0 sc sh wu) (k0_pay6 x g0 sc sh wg) k0_pay7 wo gate g1 (ix2 r k) =
    resid (fun k => x (ix2 r k))
      (glu (pre (fun k => x (ix2 r k)) (fun k => g0 (ix2 0 k)) (fun k => sc (ix3 0 0 k)) (fun k => sh (ix3 0 0 k)))
        (fun i j => wg (ix2 i j)) (fun i j => wu (ix2 i j)) (fun j k => wo (ix2 j k)))
      (fun k => gate (ix3 0 0 k)) (fun k => g1 (ix2 0 k)) (Ideal.ofBits FTy.f32 1056964608#32) k := by
  unfold k0_pay1 k0_pay2 k0_pay4 k0_pay5 k0_pay6 k0_pay7 resid rms glu act k0_pay4
  pointwise
  simp only [pre_at, zero_sub]

variable (m : (ℓ : Loc nD τ sig) → Buf (Elt Ideal) ℓ)

theorem idx : ∀ t : Fin grid0.N, win0_0.index t = ![t.val, 0] ∧ win0_1.index t = ![t.val / 32, 0, 0] ∧
    win0_2.index t = ![t.val / 32, 0, 0] ∧ win0_3.index t = ![t.val / 32, 0, 0] ∧ win0_4.index t = ![0, 0] ∧
    win0_5.index t = ![0, 0] ∧ win0_6.index t = ![0, 0] ∧ win0_7.index t = ![0, 0] ∧ win0_8.index t = ![t.val, 0] := by
  decide +kernel

/-- The reference's result as a function of the arguments. -/
abbrev whole (m : (ℓ : Loc nD τ sig) → Buf (Elt Ideal) ℓ) (c : Dev nD) : FVec Ideal S16384x1024 .f32 :=
  FfnRef.postT (m ((c.tc : Thread nD τ).loc main_arg0))
    (FfnRef.mlpT (FfnRef.hidT (FfnRef.preT (m ((c.tc : Thread nD τ).loc main_arg0)) (m ((c.tc : Thread nD τ).loc main_arg1))
      (m ((c.tc : Thread nD τ).loc main_arg2))) (m ((c.tc : Thread nD τ).loc main_arg4))) (m ((c.tc : Thread nD τ).loc main_arg5)))
    (m ((c.tc : Thread nD τ).loc main_arg1)) (m ((c.tc : Thread nD τ).loc main_arg3))

variable (c : Dev nD) (t : Fin cfg0.N)

theorem lt : t.val < 64 := t.isLt

/-! What each window's block holds of the arguments. -/

theorem x_at (r : Fin 256) (k : Fin 1024) : iblk m c 0 t (ix2 r k) = m ((c.tc : Thread nD τ).loc main_arg0)
    (ix3 ⟨(256 * t.val + r.val) / 8192, by have := lt t; omega⟩ ⟨(256 * t.val + r.val) % 8192, by omega⟩ k) := by
  have := lt t
  blk_ext! [iblk, V, idx t]
theorem shift_at (r : Fin 256) (k : Fin 1024) : iblk m c 1 t (ix3 0 0 k) = m ((c.tc : Thread nD τ).loc main_arg1)
    (ix4 ⟨(256 * t.val + r.val) / 8192, by have := lt t; omega⟩ 0 0 k) := by
  have := lt t
  blk_ext! [iblk, V, idx t]
theorem scale_at (r : Fin 256) (k : Fin 1024) : iblk m c 2 t (ix3 0 0 k) = m ((c.tc : Thread nD τ).loc main_arg1)
    (ix4 ⟨(256 * t.val + r.val) / 8192, by have := lt t; omega⟩ 0 1 k) := by
  have := lt t
  blk_ext! [iblk, V, idx t]
theorem gate_at (r : Fin 256) (k : Fin 1024) : iblk m c 3 t (ix3 0 0 k) = m ((c.tc : Thread nD τ).loc main_arg1)
    (ix4 ⟨(256 * t.val + r.val) / 8192, by have := lt t; omega⟩ 0 2 k) := by
  have := lt t
  blk_ext! [iblk, V, idx t]
theorem g0_at (k : Fin 1024) : iblk m c 4 t (ix2 0 k) = m ((c.tc : Thread nD τ).loc main_arg2) (ix2 0 k) := by
  blk_ext! [iblk, V, idx t]
theorem g1_at (k : Fin 1024) : iblk m c 5 t (ix2 0 k) = m ((c.tc : Thread nD τ).loc main_arg3) (ix2 0 k) := by
  blk_ext! [iblk, V, idx t]
theorem wi_at (i : Fin 1024) (j : Fin 5632) : iblk m c 6 t (ix2 i j) = m ((c.tc : Thread nD τ).loc main_arg4) (ix3 0 i j) := by
  blk_ext! [iblk, V, idx t]
theorem ld_wg (w : Vec Ideal S1024x5632 .bf16) (i : Fin 1024) (j : Fin 2816) :
    View.ld w r0_3 (ix2 i j) = w (ix2 i ⟨j.val, by omega⟩) := by
  refine congrArg w ?_
  blk_ext
  · show 0 + 1 * i.val = i.val; omega
  · show 0 + 1 * j.val = j.val; omega
theorem ld_wu (w : Vec Ideal S1024x5632 .bf16) (i : Fin 1024) (j : Fin 2816) :
    View.ld w r0_4 (ix2 i j) = w (ix2 i ⟨2816 + j.val, by omega⟩) := by
  refine congrArg w ?_
  blk_ext
  · show 0 + 1 * i.val = i.val; omega
  · show 2816 + 1 * j.val = 2816 + j.val; omega
theorem wg_at (i : Fin 1024) (j : Fin 2816) : View.ld (iblk m c 6 t) r0_3 (ix2 i j) =
    m ((c.tc : Thread nD τ).loc main_arg4) (ix3 0 i ⟨j.val, by omega⟩) :=
  (ld_wg _ i j).trans (wi_at m c t i _)
theorem wu_at (i : Fin 1024) (j : Fin 2816) : View.ld (iblk m c 6 t) r0_4 (ix2 i j) =
    m ((c.tc : Thread nD τ).loc main_arg4) (ix3 0 i ⟨2816 + j.val, by omega⟩) :=
  (ld_wu _ i j).trans (wi_at m c t i _)
theorem wo_at (j : Fin 2816) (k : Fin 1024) : iblk m c 7 t (ix2 j k) = m ((c.tc : Thread nD τ).loc main_arg5) (ix3 0 j k) := by
  blk_ext! [iblk, V, idx t]

theorem out_idx (r : Fin 256) (k : Fin 1024) :
    (win0_8.blk t).view.emb (ix2 r k) = ix2 (⟨256 * t.val + r.val, by have := lt t; omega⟩ : Fin 16384) k := by
  have := lt t
  blk_ext [idx t]

theorem final : (dats m 0 c).arrAt 8 cfg0.N = whole m c := by
  refine (dats m 0 c).arrAt_eq_of_covers 8 _ (by decide +kernel) fun t hf y => ?_
  blk_simp
  rw [after0_8]
  frame_out
  idx_vars y
  rw [out_at]
  unfold whole
  rw [out_idx, FfnRef.post_at]
  simp only [FfnRef.mlp_at, FfnRef.pre_at, x_at, shift_at m c t y0, scale_at m c t y0, gate_at m c t y0, g0_at, g1_at, wg_at,
    wu_at, wo_at]

variable (m' : (ℓ : Loc Cert.Reference4Ideal.nD Cert.Reference4Ideal.τ Cert.Reference4Ideal.sig) → Buf (Elt Ideal) ℓ)

theorem algebraic : Cert.algebraic_Kernel4Ideal_Reference4Ideal := by
  pair_intro
  · run_from Value.run_blocks m g
  · run_from Cert.Reference4Ideal.Value.run m' g'
    obtain ⟨e0, e1, e2, e3, e4, e5⟩ := hagree c
    rw [final]
    refine (FfnRef.out_eq m' c).trans ?_
    rw [e0, e1, e2, e3, e4, e5]

end Cert.Proof.Ffn
-- ==== Proof.Scan.lean ====
module

public import Mathlib.Data.Complex.Basic
public import Mathlib.Algebra.BigOperators.Intervals
public import Mathlib.Tactic.Ring
public import Mathlib.Tactic.NormNum
public import Mathlib.Tactic.Linarith
public import Idealize.ShloMosaic.Lib.Pointwise

@[expose] public section

noncomputable section

/-! The linear recurrence `S (n + 1) = a * S n + v n`, and the doubling scan of a chunk of its inputs. -/

namespace Cert.Proof.Scan

/-- The state before input `n`. -/
def S (a : ℂ) (v : ℕ → ℂ) : ℕ → ℂ
  | 0 => 0
  | n + 1 => a * S a v n + v n

/-- The last `n` inputs up to row `r`, each with its power. -/
def W (a : ℂ) (v : ℕ → ℂ) (n r : ℕ) : ℂ := ∑ j ∈ Finset.range n, if j ≤ r then a ^ j * v (r - j) else 0

theorem W_one (a : ℂ) (v : ℕ → ℂ) (r : ℕ) : W a v 1 r = v r := by simp [W]

/-- A doubling step. -/
theorem W_double (a : ℂ) (v : ℕ → ℂ) (n r : ℕ) :
    W a v (n + n) r = W a v n r + if n ≤ r then a ^ n * W a v n (r - n) else 0 := by
  unfold W
  rw [Finset.sum_range_add]
  congr 1
  split
  · rename_i h
    rw [Finset.mul_sum]
    refine Finset.sum_congr rfl fun j _ => ?_
    by_cases hj : n + j ≤ r
    · rw [if_pos hj, if_pos (by omega), pow_add, Nat.sub_sub, mul_assoc]
    · rw [if_neg hj, if_neg (by omega), mul_zero]
  · exact Finset.sum_eq_zero fun j _ => if_neg (by omega)

theorem W_full (a : ℂ) (v : ℕ → ℂ) (n r : ℕ) (h : r < n) :
    W a v n r = ∑ j ∈ Finset.range (r + 1), a ^ j * v (r - j) := by
  unfold W
  rw [← Finset.sum_range_add_sum_Ico _ (show r + 1 ≤ n by omega)]
  rw [Finset.sum_eq_zero (s := Finset.Ico (r + 1) n) fun j hj => if_neg (by have := Finset.mem_Ico.1 hj; omega), add_zero]
  exact Finset.sum_congr rfl fun j hj => if_pos (by have := Finset.mem_range.1 hj; omega)

/-- The state after row `r` of a chunk that starts at input `m`: the scan of the chunk, and the carried state's part. -/
theorem S_chunk (a : ℂ) (v : ℕ → ℂ) (m n : ℕ) : ∀ r < n,
    S a v (m + (r + 1)) = W a (fun i => v (m + i)) n r + a ^ (r + 1) * S a v m := by
  intro r hr
  rw [W_full a _ n r hr]
  induction r with
  | zero => simp [S]; ring
  | succ r ih =>
    rw [show m + (r + 1 + 1) = (m + (r + 1)) + 1 from rfl, S, ih (by omega), Finset.sum_range_succ' _ (r + 1)]
    rw [mul_add, Finset.mul_sum]
    have : ∀ j ∈ Finset.range (r + 1), a * (a ^ j * v (m + (r - j))) = a ^ (j + 1) * v (m + (r + 1 - (j + 1))) := fun j hj => by
      rw [Nat.add_sub_add_right]; ring
    rw [Finset.sum_congr rfl this]
    simp
    ring

/-! Extended reals that are real numbers. -/

/-- `x` is a real number. -/
def IsR (x : EReal) : Prop := ∃ r : ℝ, x = r

theorem IsR.coe {x : EReal} (h : IsR x) : ((x.toReal : ℝ) : EReal) = x := by
  obtain ⟨r, rfl⟩ := h
  rw [EReal.toReal_coe]
theorem IsR.zero : IsR 0 := ⟨0, rfl⟩
theorem IsR.add {x y : EReal} (h : IsR x) (k : IsR y) : IsR (x + y) := by
  obtain ⟨r, rfl⟩ := h; obtain ⟨s, rfl⟩ := k
  exact ⟨r + s, (EReal.coe_add r s).symm⟩
theorem IsR.mul {x y : EReal} (h : IsR x) (k : IsR y) : IsR (x * y) := by
  obtain ⟨r, rfl⟩ := h; obtain ⟨s, rfl⟩ := k
  exact ⟨r * s, (EReal.coe_mul r s).symm⟩
theorem IsR.sum {n : ℕ} (f : Fin n → EReal) (h : ∀ k, IsR (f k)) : IsR (∑ k, f k) := by
  refine Finset.sum_induction f IsR (fun _ _ => IsR.add) IsR.zero fun k _ => h k

/-- A sum of negated real numbers is the negated sum. -/
theorem sum_neg {n : ℕ} (f : Fin n → EReal) (h : ∀ k, IsR (f k)) : ∑ k, -f k = -∑ k, f k := by
  induction n with
  | zero => simp
  | succ n ih =>
    rw [Fin.sum_univ_succ, Fin.sum_univ_succ, ih _ fun k => h k.succ]
    obtain ⟨r, hr⟩ := h 0
    obtain ⟨s, hs⟩ := IsR.sum _ fun k => h k.succ
    rw [hs, hr, ← EReal.coe_add, ← EReal.coe_neg, ← EReal.coe_neg, ← EReal.coe_neg, ← EReal.coe_add, neg_add]

/-- The two parts of a complex number as extended reals. -/
abbrev re (z : ℂ) : EReal := (z.re : ℝ)
abbrev im (z : ℂ) : EReal := (z.im : ℝ)

theorem mul_re (z w : ℂ) : re (z * w) = re z * re w - im z * im w := by
  simp only [re, im, Complex.mul_re, EReal.coe_sub, EReal.coe_mul]
theorem mul_im (z w : ℂ) : im (z * w) = re z * im w + im z * re w := by
  simp only [re, im, Complex.mul_im, EReal.coe_add, EReal.coe_mul]
theorem add_re (z w : ℂ) : re (z + w) = re z + re w := by simp only [re, Complex.add_re, EReal.coe_add]
theorem add_im (z w : ℂ) : im (z + w) = im z + im w := by simp only [im, Complex.add_im, EReal.coe_add]
theorem zero_re : re 0 = 0 := rfl
theorem zero_im : im 0 = 0 := rfl
theorem ite_re (p : Prop) [Decidable p] (z w : ℂ) : re (if p then z else w) = if p then re z else re w := by split <;> rfl
theorem ite_im (p : Prop) [Decidable p] (z w : ℂ) : im (if p then z else w) = if p then im z else im w := by split <;> rfl

/-! Sums over blocks, with a block-diagonal factor. -/

/-- A sum over `n * k` in blocks of `k`. -/
theorem sum_blocks {N : ℕ} (n k : ℕ) (hN : n * k = N) (f : Fin N → EReal) :
    ∑ i, f i = ∑ g : Fin n, ∑ h : Fin k, f ⟨g.val * k + h.val, by
      have := g.isLt; have := h.isLt; have : (g.val + 1) * k ≤ n * k := Nat.mul_le_mul_right k (by omega); rw [Nat.add_mul] at this; omega⟩ := by
  subst hN
  rw [← (finProdFinEquiv (m := n) (n := k)).sum_comp, Fintype.sum_prod_type]
  refine Finset.sum_congr rfl fun g _ => Finset.sum_congr rfl fun h _ => congrArg f (Fin.ext ?_)
  simp [finProdFinEquiv, Nat.mul_comm, Nat.add_comm]

/-- Only one block of the sum is not zero. -/
theorem sum_block {N : ℕ} (n k : ℕ) (hN : n * k = N) (g : Fin n) (f : Fin N → EReal)
    (h0 : ∀ i : Fin N, i.val / k ≠ g.val → f i = 0) :
    ∑ i, f i = ∑ h : Fin k, f ⟨g.val * k + h.val, by
      have := g.isLt; have := h.isLt; have : (g.val + 1) * k ≤ n * k := Nat.mul_le_mul_right k (by omega); rw [Nat.add_mul] at this; omega⟩ := by
  rw [sum_blocks n k hN f]
  refine Finset.sum_eq_single_of_mem g (Finset.mem_univ g) fun g' _ hg => Finset.sum_eq_zero fun h _ => h0 _ ?_
  have hk : 0 < k := by have := h.isLt; omega
  show (g'.val * k + h.val) / k ≠ g.val
  rw [Nat.mul_comm, Nat.mul_add_div hk, Nat.div_eq_of_lt h.isLt]
  exact fun e => hg (Fin.ext (by omega))

/-! The S5 layer, one output at a time. -/

section Layer

variable (U : Fin 2 → Fin 8192 → Fin 256 → EReal) (A A' : Fin 1024 → EReal) (B B' : Fin 1024 → Fin 16 → EReal)

/-- The input of mode `q` at token `n`. -/
def bu (b : Fin 2) (q : Fin 1024) (n : ℕ) : EReal :=
  if h : n < 8192 then ∑ x : Fin 16, B q x * U b ⟨n, h⟩ ⟨q.val / 64 * 16 + x.val, by have := q.isLt; have := x.isLt; omega⟩ else 0

/-- The state of mode `q` before token `n`. -/
def hid (b : Fin 2) (q : Fin 1024) (n : ℕ) : ℂ :=
  S ⟨(A q).toReal, (A' q).toReal⟩ (fun i => ⟨(bu U B b q i).toReal, (bu U B' b q i).toReal⟩) n

theorem bu_real (hU : ∀ b n k, IsR (U b n k)) (hB : ∀ q x, IsR (B q x)) (b : Fin 2) (q : Fin 1024) (n : ℕ) : IsR (bu U B b q n) := by
  unfold bu
  split
  · exact IsR.sum _ fun x => (hB q x).mul (hU b _ _)
  · exact IsR.zero

/-- The mixed output of channel `k`. -/
def mix (C C' : Fin 16 → Fin 16 → Fin 64 → EReal) (D : Fin 256 → EReal) (b : Fin 2) (n : Fin 8192) (k : Fin 256) : EReal :=
  (∑ p : Fin 64, C ⟨k.val / 16, by have := k.isLt; omega⟩ ⟨k.val % 16, by omega⟩ p *
      re (hid U A A' B B' b ⟨k.val / 16 * 64 + p.val, by have := k.isLt; have := p.isLt; omega⟩ (n.val + 1))) -
    (∑ p : Fin 64, C' ⟨k.val / 16, by have := k.isLt; omega⟩ ⟨k.val % 16, by omega⟩ p *
      im (hid U A A' B B' b ⟨k.val / 16 * 64 + p.val, by have := k.isLt; have := p.isLt; omega⟩ (n.val + 1))) + D k * U b n k

/-- The GELU, as the reference has it. -/
def gelu (y : EReal) : EReal :=
  y * (Idealize.ShloMosaic.Ideal.ofBits .f32 1056964608#32 * (1 + Idealize.ShloMosaic.Ideal.tanh (Idealize.ShloMosaic.Ideal.ofBits .f32 1061962282#32 *
    (y + Idealize.ShloMosaic.Ideal.ofBits .f32 1027024659#32 * (y * y * y)))))

/-- The gate over the row `y`. -/
def gated (y : Fin 256 → EReal) (G : Fin 256 → Fin 256 → EReal) (g : Fin 256 → EReal) (k : Fin 256) : EReal :=
  gelu (y k) * Idealize.ShloMosaic.Ideal.div 1 (1 + Idealize.ShloMosaic.Ideal.exp (-(∑ x, gelu (y x) * G x k + g k)))

end Layer

end Cert.Proof.Scan

end
-- ==== Proof.S5Chunk.lean ====
module

public import proofs.«01_k».proof.Proof.Scan
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! The body of the S5 kernel: one chunk of 256 rows of the recurrence, by doubling steps. -/

namespace Cert.Proof.S5

open Idealize.ShloMosaic Idealize.ShloMosaic.TcCoe Idealize.SL.Sem
open Cert.KernelIdeal Cert.KernelIdeal.Gen Cert.Proof.Scan

/-- The row numbers the masks compare. -/
abbrev I : IVec S256x1024 32 := iota .tc S256x1024 32 [0] iota_S256x1024_d0_w32

/-- Column `q` of `x` and `y` holds, at each row, the last `n` inputs with their powers. -/
def Rows (a : ℂ) (v : ℕ → ℂ) (n : ℕ) (q : Fin 1024) (x y : FVec Ideal S256x1024 .f32) : Prop :=
  ∀ r : Fin 256, x (ix2 r q) = re (W a v n r) ∧ y (ix2 r q) = im (W a v n r)

/-- Column `q` of `p` and `p'` holds the complex number `z`. -/
def Is (z : ℂ) (q : Fin 1024) (p p' : Vec Ideal S1x1024 .f32) : Prop := p (ix2 0 q) = re z ∧ p' (ix2 0 q) = im z

theorem mask (n : ℕ) (hn : n < 256) (r : Fin 256) (x y : EReal) :
    Scalar.select (IntOp.cmpi .sge (BitVec.ofNat 32 r.val) (BitVec.ofNat 32 n)) x y = if n ≤ r.val then x else y := by
  rw [WordCmp.cmpi_sge_ofNat (by have := r.isLt; omega) (by omega), WordCmp.select_decide]

variable {a : ℂ} {v : ℕ → ℂ} {q : Fin 1024}

/-- A doubling step: rotate by `n`, mask, multiply by the power, add. -/
theorem step_re {n : ℕ} (hn : n < 256) {x y : FVec Ideal S256x1024 .f32} {p p' : Vec Ideal S1x1024 .f32} (h : Rows a v n q x y)
    (hp : Is (a ^ n) q p p') (r : Fin 256) (hr : (r.val + 256 - n) % 256 < 256) :
    x (ix2 r q) + Scalar.select (IntOp.cmpi .sge (BitVec.ofNat 32 r.val) (BitVec.ofNat 32 n))
      (p (ix2 0 q) * x (ix2 ⟨(r.val + 256 - n) % 256, hr⟩ q) - p' (ix2 0 q) * y (ix2 ⟨(r.val + 256 - n) % 256, hr⟩ q)) 0 =
      re (W a v (n + n) r) := by
  rw [mask n hn, W_double, add_re, ite_re, mul_re, zero_re, (h _).1, (h _).1, (h _).2, hp.1, hp.2]
  split
  · rename_i hle
    have e : (r.val + 256 - n) % 256 = r.val - n := by have := r.isLt; omega
    simp only [e]
  · rfl

theorem step_im {n : ℕ} (hn : n < 256) {x y : FVec Ideal S256x1024 .f32} {p p' : Vec Ideal S1x1024 .f32} (h : Rows a v n q x y)
    (hp : Is (a ^ n) q p p') (r : Fin 256) (hr : (r.val + 256 - n) % 256 < 256) :
    y (ix2 r q) + Scalar.select (IntOp.cmpi .sge (BitVec.ofNat 32 r.val) (BitVec.ofNat 32 n))
      (p (ix2 0 q) * y (ix2 ⟨(r.val + 256 - n) % 256, hr⟩ q) + p' (ix2 0 q) * x (ix2 ⟨(r.val + 256 - n) % 256, hr⟩ q)) 0 =
      im (W a v (n + n) r) := by
  rw [mask n hn, W_double, add_im, ite_im, mul_im, zero_im, (h _).2, (h _).2, (h _).1, hp.1, hp.2]
  split
  · rename_i hle
    have e : (r.val + 256 - n) % 256 = r.val - n := by have := r.isLt; omega
    simp only [e]
  · rfl

variable {x y : FVec Ideal S256x1024 .f32} {p p' s s' : Vec Ideal S1x1024 .f32}

theorem rows2 {u : Vec Ideal S1x256x256 .f32} {w : Vec Ideal S256x2048 .bf16} (h : Rows a v 1 q (k0_pay6 u w) (k0_pay7 u w))
    (hp : Is (a ^ 1) q p p') : Rows a v 2 q (k0_pay11 u w p p') (k0_pay12 u w p p') := fun r => by
  unfold k0_pay11 k0_pay12 k0_pay8 k0_pay9 k0_pay10
  pointwise
  exact ⟨step_re (by decide) h hp r _, step_im (by decide) h hp r _⟩

theorem rows4 (h : Rows a v 2 q x y) (hp : Is (a ^ 2) q p p') :
    Rows a v 4 q (k0_pay16 I x y p p') (k0_pay17 I x y p p') := fun r => by
  unfold k0_pay16 k0_pay17 k0_pay13 k0_pay14 k0_pay15
  pointwise
  exact ⟨step_re (by decide) h hp r _, step_im (by decide) h hp r _⟩

theorem rows8 (h : Rows a v 2 q x y) (hp : Is (a ^ 2) q p p') (hs : Is (a ^ 4) q s s') :
    Rows a v 8 q (k0_pay21 I x y p p' s s') (k0_pay22 I x y p p' s s') := fun r => by
  unfold k0_pay21 k0_pay22 k0_pay18 k0_pay19 k0_pay20
  pointwise
  exact ⟨step_re (by decide) (rows4 h hp) hs r _, step_im (by decide) (rows4 h hp) hs r _⟩

theorem rows16 (h : Rows a v 8 q x y) (hp : Is (a ^ 8) q p p') :
    Rows a v 16 q (k0_pay26 I x y p p') (k0_pay27 I x y p p') := fun r => by
  unfold k0_pay26 k0_pay27 k0_pay23 k0_pay24 k0_pay25
  pointwise
  exact ⟨step_re (by decide) h hp r _, step_im (by decide) h hp r _⟩

theorem rows32 (h : Rows a v 8 q x y) (hp : Is (a ^ 8) q p p') (hs : Is (a ^ 16) q s s') :
    Rows a v 32 q (k0_pay31 I x y p p' s s') (k0_pay32 I x y p p' s s') := fun r => by
  unfold k0_pay31 k0_pay32 k0_pay28 k0_pay29 k0_pay30
  pointwise
  exact ⟨step_re (by decide) (rows16 h hp) hs r _, step_im (by decide) (rows16 h hp) hs r _⟩

theorem rows64 (h : Rows a v 32 q x y) (hp : Is (a ^ 32) q p p') :
    Rows a v 64 q (k0_pay36 I x y p p') (k0_pay37 I x y p p') := fun r => by
  unfold k0_pay36 k0_pay37 k0_pay33 k0_pay34 k0_pay35
  pointwise
  exact ⟨step_re (by decide) h hp r _, step_im (by decide) h hp r _⟩

theorem rows128 (h : Rows a v 32 q x y) (hp : Is (a ^ 32) q p p') (hs : Is (a ^ 64) q s s') :
    Rows a v 128 q (k0_pay41 I x y p p' s s') (k0_pay42 I x y p p' s s') := fun r => by
  unfold k0_pay41 k0_pay42 k0_pay38 k0_pay39 k0_pay40
  pointwise
  exact ⟨step_re (by decide) (rows64 h hp) hs r _, step_im (by decide) (rows64 h hp) hs r _⟩

/-- The last step adds the carried state with the table's power of the row. -/
theorem rows256 {P P' : Vec Ideal S256x1024 .f32} (h : Rows a v 128 q x y) (hp : Is (a ^ 128) q p p')
    (hP : ∀ r : Fin 256, P (ix2 r q) = re (a ^ (r.val + 1)) ∧ P' (ix2 r q) = im (a ^ (r.val + 1))) {z : ℂ} (hs : Is z q s s')
    (r : Fin 256) : k0_pay46 I x y p p' P P' s s' (ix2 r q) = re (W a v 256 r + a ^ (r.val + 1) * z) ∧
      k0_pay47 I x y p p' P P' s s' (ix2 r q) = im (W a v 256 r + a ^ (r.val + 1) * z) := by
  unfold k0_pay46 k0_pay47 k0_pay43 k0_pay44 k0_pay45
  pointwise
  rw [add_re, add_im, mul_re, mul_im, (hP r).1, (hP r).2, hs.1, hs.2]
  exact ⟨congrArg (· + _) (step_re (by decide) h hp r _), congrArg (· + _) (step_im (by decide) h hp r _)⟩

/-! The body's values as functions of its blocks. -/

/-- Row `k` of a table. -/
abbrev row (P : Vec Ideal S256x1024 .f32) (k : ℕ) (h : ∀ i : Fin 2, (![k, 0] : Fin 2 → ℕ) i + S1x1024.size i ≤ S256x1024.size i) :
    Vec Ideal S1x1024 .f32 := View.ld P (Rect.unit (s := S256x1024) ![k, 0] S1x1024.size h)

theorem row_at (P : Vec Ideal S256x1024 .f32) (k : ℕ) (h) (hk : k < 256) (q : Fin 1024) :
    row P k h (ix2 0 q) = P (ix2 ⟨k, hk⟩ q) := by
  refine congrArg P ?_
  blk_ext
  · show k + 1 * 0 = k
    omega
  · show 0 + 1 * q.val = q.val
    omega

variable (u : Vec Ideal S1x256x256 .f32) (w : Vec Ideal S256x2048 .bf16) (P P' : Vec Ideal S256x1024 .f32)

def x2 : FVec Ideal S256x1024 .f32 × FVec Ideal S256x1024 .f32 :=
  (k0_pay11 u w (row P 0 inb_S256x1024_S1x1024_0_0) (row P' 0 inb_S256x1024_S1x1024_0_0),
    k0_pay12 u w (row P 0 inb_S256x1024_S1x1024_0_0) (row P' 0 inb_S256x1024_S1x1024_0_0))

def x8 (x y : FVec Ideal S256x1024 .f32) : FVec Ideal S256x1024 .f32 × FVec Ideal S256x1024 .f32 :=
  (k0_pay21 I x y (row P 1 inb_S256x1024_S1x1024_1_0) (row P' 1 inb_S256x1024_S1x1024_1_0) (row P 3 inb_S256x1024_S1x1024_3_0) (row P' 3 inb_S256x1024_S1x1024_3_0),
    k0_pay22 I x y (row P 1 inb_S256x1024_S1x1024_1_0) (row P' 1 inb_S256x1024_S1x1024_1_0) (row P 3 inb_S256x1024_S1x1024_3_0) (row P' 3 inb_S256x1024_S1x1024_3_0))

def x32 (x y : FVec Ideal S256x1024 .f32) : FVec Ideal S256x1024 .f32 × FVec Ideal S256x1024 .f32 :=
  (k0_pay31 I x y (row P 7 inb_S256x1024_S1x1024_7_0) (row P' 7 inb_S256x1024_S1x1024_7_0) (row P 15 inb_S256x1024_S1x1024_15_0) (row P' 15 inb_S256x1024_S1x1024_15_0),
    k0_pay32 I x y (row P 7 inb_S256x1024_S1x1024_7_0) (row P' 7 inb_S256x1024_S1x1024_7_0) (row P 15 inb_S256x1024_S1x1024_15_0) (row P' 15 inb_S256x1024_S1x1024_15_0))

def x128 (x y : FVec Ideal S256x1024 .f32) : FVec Ideal S256x1024 .f32 × FVec Ideal S256x1024 .f32 :=
  (k0_pay41 I x y (row P 31 inb_S256x1024_S1x1024_31_0) (row P' 31 inb_S256x1024_S1x1024_31_0) (row P 63 inb_S256x1024_S1x1024_63_0) (row P' 63 inb_S256x1024_S1x1024_63_0),
    k0_pay42 I x y (row P 31 inb_S256x1024_S1x1024_31_0) (row P' 31 inb_S256x1024_S1x1024_31_0) (row P 63 inb_S256x1024_S1x1024_63_0) (row P' 63 inb_S256x1024_S1x1024_63_0))

/-- The scan of the chunk, before the last step. -/
def scan : FVec Ideal S256x1024 .f32 × FVec Ideal S256x1024 .f32 :=
  x128 P P' (x32 P P' (x8 P P' (x2 u w P P').1 (x2 u w P P').2).1 (x8 P P' (x2 u w P P').1 (x2 u w P P').2).2).1
    (x32 P P' (x8 P P' (x2 u w P P').1 (x2 u w P P').2).1 (x8 P P' (x2 u w P P').1 (x2 u w P P').2).2).2

/-- The states of the chunk's rows, from the state `s`, `s'` before it. -/
def hRe (s s' : Vec Ideal S1x1024 .f32) : FVec Ideal S256x1024 .f32 :=
  k0_pay46 I (scan u w P P').1 (scan u w P P').2 (row P 127 inb_S256x1024_S1x1024_127_0) (row P' 127 inb_S256x1024_S1x1024_127_0) P P' s s'
def hIm (s s' : Vec Ideal S1x1024 .f32) : FVec Ideal S256x1024 .f32 :=
  k0_pay47 I (scan u w P P').1 (scan u w P P').2 (row P 127 inb_S256x1024_S1x1024_127_0) (row P' 127 inb_S256x1024_S1x1024_127_0) P P' s s'

variable {u w P P'}

theorem scan_rows (h : Rows a v 1 q (k0_pay6 u w) (k0_pay7 u w))
    (hP : ∀ r : Fin 256, P (ix2 r q) = re (a ^ (r.val + 1)) ∧ P' (ix2 r q) = im (a ^ (r.val + 1))) :
    Rows a v 128 q (scan u w P P').1 (scan u w P P').2 := by
  have e (k : ℕ) (h) (hk : k < 256) : Is (a ^ (k + 1)) q (row P k h) (row P' k h) :=
    ⟨(row_at P k h hk q).trans (hP ⟨k, hk⟩).1, (row_at P' k h hk q).trans (hP ⟨k, hk⟩).2⟩
  exact rows128 (rows32 (rows8 (rows2 h (e 0 _ (by decide))) (e 1 _ (by decide)) (e 3 _ (by decide))) (e 7 _ (by decide)) (e 15 _ (by decide)))
    (e 31 _ (by decide)) (e 63 _ (by decide))

/-- The chunk from input `b` on: row `r` holds the state after input `b + r`. -/
theorem chunk (b : ℕ) (h : Rows a (fun i => v (b + i)) 1 q (k0_pay6 u w) (k0_pay7 u w))
    (hP : ∀ r : Fin 256, P (ix2 r q) = re (a ^ (r.val + 1)) ∧ P' (ix2 r q) = im (a ^ (r.val + 1))) (hs : Is (S a v b) q s s') (r : Fin 256) :
    hRe u w P P' s s' (ix2 r q) = re (S a v (b + (r.val + 1))) ∧ hIm u w P P' s s' (ix2 r q) = im (S a v (b + (r.val + 1))) := by
  rw [S_chunk a v b 256 r.val r.isLt]
  exact rows256 (scan_rows h hP) ⟨(row_at P 127 _ (by decide) q).trans (hP ⟨127, by decide⟩).1, (row_at P' 127 _ (by decide) q).trans (hP ⟨127, by decide⟩).2⟩ hP hs r

/-! What a grid point leaves. -/

variable (m : (ℓ : Loc nD τ sig) → Buf (Elt Ideal) ℓ) (c : Dev nD) (t : Fin cfg0.N)

/-- The state a point starts from: zero's block at the first point of a batch, else what the point before left. -/
def carry (t : Fin cfg0.N) : Vec Ideal S1x1024 .f32 × Vec Ideal S1x1024 .f32 :=
  if t.val % 32 = 0 then
    (k0_pay2 (View.ld (iblk m c 1 t) (Rect.unit (s := S1x1x2048) ![0, 0, 0] S1x1x1024.size inb_S1x1x2048_S1x1x1024_0_0_0)),
      k0_pay3 (View.ld (iblk m c 1 t) (Rect.unit (s := S1x1x2048) ![0, 0, 1024] S1x1x1024.size inb_S1x1x2048_S1x1x1024_0_0_1024)))
  else
    ((outsAt0 m c (t.val - 1) (Nat.lt_of_le_of_lt (Nat.sub_le _ _) t.isLt)).2.2.1,
      (outsAt0 m c (t.val - 1) (Nat.lt_of_le_of_lt (Nat.sub_le _ _) t.isLt)).2.2.2)

/-- The states of the rows of point `t`. -/
def tRe : FVec Ideal S256x1024 .f32 :=
  hRe (iblk m c 0 t) (iblk m c 4 t) (iblk m c 2 t) (iblk m c 3 t) (carry m c t).1 (carry m c t).2
def tIm : FVec Ideal S256x1024 .f32 :=
  hIm (iblk m c 0 t) (iblk m c 4 t) (iblk m c 2 t) (iblk m c 3 t) (carry m c t).1 (carry m c t).2

theorem pay49_at (x : FVec Ideal S256x1024 .f32) : k0_pay49 (extractStridedSlice S1x1024 ![255, 0] x slices_S256x1024_o255_0_S1x1024) (ix2 0 q) = x (ix2 255 q) := by
  unfold k0_pay49
  pointwise

theorem pay50_at (x : FVec Ideal S256x1024 .f32) : k0_pay50 x (ix2 0 q) = x (ix2 255 q) := by
  unfold k0_pay50
  pointwise

theorem left_re (q : Fin 1024) : (outsAt0 m c t.val t.isLt).2.2.1 (ix2 0 q) = tRe m c t (ix2 255 q) := by
  by_cases h : t.val % 32 = 0
  · rw [outsAt0_A m c t h]
    frame_out
    unfold tRe carry
    rw [if_pos h]
    exact pay49_at _
  · rw [outsAt0_B m c t h]
    frame_out
    simp only [read_unread_whole]
    unfold tRe carry
    rw [if_neg h]
    exact pay49_at _

theorem left_im (q : Fin 1024) : (outsAt0 m c t.val t.isLt).2.2.2 (ix2 0 q) = tIm m c t (ix2 255 q) := by
  by_cases h : t.val % 32 = 0
  · rw [outsAt0_A m c t h]
    frame_out
    unfold tIm carry
    rw [if_pos h]
    exact pay50_at _
  · rw [outsAt0_B m c t h]
    frame_out
    simp only [read_unread_whole]
    unfold tIm carry
    rw [if_neg h]
    exact pay50_at _

/-- The first output's block as a function of the point's blocks and states. -/
def yBlk (x y : FVec Ideal S256x1024 .f32) : Vec Ideal S1x256x256 .f32 :=
  k0_pay1 (k0_pay54 (k0_pay4 (iblk m c 0 t)) x y
      (View.ld (iblk m c 5 t) (Rect.unit (s := S2048x256) ![0, 0] S1024x256.size inb_S2048x256_S1024x256_0_0))
      (View.ld (iblk m c 5 t) (Rect.unit (s := S2048x256) ![1024, 0] S1024x256.size inb_S2048x256_S1024x256_1024_0)) (iblk m c 6 t))
    (k0_pay55 (k0_pay4 (iblk m c 0 t)) x y
      (View.ld (iblk m c 5 t) (Rect.unit (s := S2048x256) ![0, 0] S1024x256.size inb_S2048x256_S1024x256_0_0))
      (View.ld (iblk m c 5 t) (Rect.unit (s := S2048x256) ![1024, 0] S1024x256.size inb_S2048x256_S1024x256_1024_0)) (iblk m c 6 t))
    (iblk m c 7 t) (iblk m c 8 t)

set_option maxHeartbeats 2000000 in
theorem left_y_A (h : t.val % 32 = 0) (y : S1x256x256.Idx) : (outsAt0 m c t.val t.isLt).1 y = yBlk m c t (tRe m c t) (tIm m c t) y := by
  rw [outsAt0_A m c t h]
  frame_out
  unfold tRe tIm carry
  rw [if_pos h]
  unfold yBlk hRe hIm scan x128 x32 x8 x2
  dsimp only
  rfl

set_option maxHeartbeats 2000000 in
theorem left_y_B (h : ¬ t.val % 32 = 0) (y : S1x256x256.Idx) : (outsAt0 m c t.val t.isLt).1 y = yBlk m c t (tRe m c t) (tIm m c t) y := by
  rw [outsAt0_B m c t h]
  frame_out
  simp only [read_unread_whole]
  unfold tRe tIm carry
  rw [if_neg h]
  unfold yBlk hRe hIm scan x128 x32 x8 x2
  dsimp only
  rfl

/-- The block of the first output. -/
theorem left_y (y : S1x256x256.Idx) : (outsAt0 m c t.val t.isLt).1 y = yBlk m c t (tRe m c t) (tIm m c t) y := by
  by_cases h : t.val % 32 = 0
  · exact left_y_A m c t h y
  · exact left_y_B m c t h y

end Cert.Proof.S5

end
-- ==== Proof.S5Host.lean ====
module
public import proofs.«01_k».proof.Proof.S5Chunk
public import Idealize.ShloMosaic.Lib.WordCmp
public import Idealize.ShloMosaic.Lib.StableHlo.RunRead
public import Idealize.ShloMosaic.Lib.Pipeline.ValueKit
public import Idealize.ShloMosaic.Lib.Pointwise
public import Idealize.ShloMosaic.Lib.ReduceAll
public import proofs.«01_k».proof.Proof.Gen.Pre_powers_and_finite
@[expose] public section
set_option maxRecDepth 16384

noncomputable section

/-! What the S5 kernel is launched on (the precondition read back, the block-diagonal matrices, the windows) and what its payloads hold. -/

namespace Cert.Proof.S5
open Idealize.ShloMosaic Idealize.ShloMosaic.TcCoe Idealize.ShloMosaic.StableHlo Idealize.SL.Sem
open Cert.KernelIdeal Cert.KernelIdeal.Gen Cert.Proof.Scan

/-- The 16 by 16 identity, as the host builds it. -/
def eye : FVec Ideal S16x16 .f32 :=
  uitofp .f32 (cmpi .eq (addi (iotaInDim S16x16 32 0) (broadcastInDim S16x16 ![] bcast_S_S16x16 (constantI S_ 32 0#32))) (iotaInDim S16x16 32 1))

theorem eye_at (g g' : Fin 16) : eye (ix2 g g') = if g = g' then 1 else 0 := by
  unfold eye
  pointwise
  have e : IntOp.addi (BitVec.ofNat 32 g.val) 0#32 = BitVec.ofNat 32 g.val := BitVec.add_zero _
  rw [e]
  by_cases h : g = g'
  · subst h
    simp [IntOp.cmpi, FloatOps.uitofp]
  · rw [if_neg h]
    have : BitVec.ofNat 32 g.val ≠ BitVec.ofNat 32 g'.val := by
      intro k
      have := congrArg BitVec.toNat k
      simp only [BitVec.toNat_ofNat] at this
      omega
    simp [IntOp.cmpi, FloatOps.uitofp, this]

/-- The input matrix with one block per group, as the host builds it. -/
def bdIn (B : FVec Ideal S1024x16 .f32) : FVec Ideal S256x1024 .f32 :=
  shapeCast S256x1024 (mulf
    (broadcastInDim S16x16x16x64 ![0, 1, 2, 3] bcast_S16x16x1x64_S16x16x16x64_0_1_2_3
      (broadcastInDim S16x16x1x64 ![0, 1, 3] bcast_S16x16x64_S16x16x1x64_0_1_3
        (transpose S16x16x64 [0, 2, 1] (shapeCast S16x64x16 B shapeCasts_S1024x16_S16x64x16) transposes_S16x64x16_S16x16x64_0_2_1)))
    (broadcastInDim S16x16x16x64 ![0, 1, 2, 3] bcast_S16x1x16x1_S16x16x16x64_0_1_2_3
      (broadcastInDim S16x1x16x1 ![0, 2] bcast_S16x16_S16x1x16x1_0_2 eye))) shapeCasts_S16x16x16x64_S256x1024

theorem bdIn_at (B : FVec Ideal S1024x16 .f32) (i : Fin 256) (j : Fin 1024) :
    bdIn B (ix2 i j) = B (ix2 ⟨i.val / 16 * 64 + j.val % 64, by omega⟩ ⟨i.val % 16, by omega⟩) * eye (ix2 ⟨i.val / 16, by omega⟩ ⟨j.val / 64, by omega⟩) := by
  unfold bdIn
  pointwise

/-- The output matrix with one block per group, as the host builds it. -/
def bdOut (C : FVec Ideal S16x16x64 .f32) : FVec Ideal S1024x256 .f32 :=
  shapeCast S1024x256 (mulf
    (broadcastInDim S16x64x16x16 ![0, 1, 2, 3] bcast_S16x64x1x16_S16x64x16x16_0_1_2_3
      (broadcastInDim S16x64x1x16 ![0, 1, 3] bcast_S16x64x16_S16x64x1x16_0_1_3
        (transpose S16x64x16 [0, 2, 1] C transposes_S16x16x64_S16x64x16_0_2_1)))
    (broadcastInDim S16x64x16x16 ![0, 1, 2, 3] bcast_S16x1x16x1_S16x64x16x16_0_1_2_3
      (broadcastInDim S16x1x16x1 ![0, 2] bcast_S16x16_S16x1x16x1_0_2 eye))) shapeCasts_S16x64x16x16_S1024x256

theorem bdOut_at (C : FVec Ideal S16x16x64 .f32) (j : Fin 1024) (k : Fin 256) :
    bdOut C (ix2 j k) = C (ix3 ⟨j.val / 64, by omega⟩ ⟨k.val % 16, by omega⟩ ⟨j.val % 64, by omega⟩) * eye (ix2 ⟨j.val / 64, by omega⟩ ⟨k.val / 16, by omega⟩) := by
  unfold bdOut
  pointwise

variable (m : (ℓ : Loc nD τ sig) → Buf (Elt Ideal) ℓ) (c : Dev nD)

set_option maxHeartbeats 1000000 in
theorem wb_eq : V m c main_v23 = truncf .bf16 (concatenate S256x2048 1 [⟨S256x1024, bdIn (m ((c.tc : Thread nD τ).loc main_arg3))⟩,
    ⟨S256x1024, bdIn (m ((c.tc : Thread nD τ).loc main_arg4))⟩] concatenates_S256x1024_S256x1024_S256x2048_d1) bitsLt_bf16_f32 := by
  show StableHlo.after hostOps0 _ _ = _
  after_reads_simp
  rfl

theorem h0_eq : V m c main_v44 = fun _ => (0 : EReal) := by
  show StableHlo.after hostOps0 _ _ = _
  after_reads_simp
  funext i
  exact Ideal.ofBits_zero_f32

theorem idx : ∀ t : Fin grid0.N, win0_0.index t = ![t.val / 32, t.val % 32, 0] ∧ win0_1.index t = ![t.val / 32, 0, 0] ∧
    win0_2.index t = ![0, 0] ∧ win0_3.index t = ![0, 0] ∧ win0_4.index t = ![0, 0] ∧
    win0_5.index t = ![0, 0] ∧ win0_6.index t = ![0, 0] ∧ win0_7.index t = ![0, 0] ∧ win0_8.index t = ![0, 0] ∧
    win0_9.index t = ![t.val / 32, t.val % 32, 0] ∧ win0_10.index t = ![t.val / 32, 0, 0] := by
  decide +kernel

variable (t : Fin cfg0.N)
theorem lt : t.val < 64 := t.isLt

theorem u_at (r : Fin 256) (k : Fin 256) : iblk m c 0 t (ix3 0 r k) = m ((c.tc : Thread nD τ).loc main_arg0)
    (ix3 ⟨t.val / 32, by have := lt t; omega⟩ ⟨256 * (t.val % 32) + r.val, by omega⟩ k) := by
  have := lt t
  blk_ext! [iblk, V, idx t]
theorem pr_at (r : Fin 256) (q : Fin 1024) : iblk m c 2 t (ix2 r q) = m ((c.tc : Thread nD τ).loc main_arg1) (ix2 r q) := by
  blk_ext! [iblk, V, idx t]
theorem pi_at (r : Fin 256) (q : Fin 1024) : iblk m c 3 t (ix2 r q) = m ((c.tc : Thread nD τ).loc main_arg2) (ix2 r q) := by
  blk_ext! [iblk, V, idx t]
theorem wb_at (i : Fin 256) (j : Fin 2048) : iblk m c 4 t (ix2 i j) = V m c main_v23 (ix2 i j) := by
  blk_ext! [iblk, idx t]
theorem h0_at (j : Fin 2048) : iblk m c 1 t (ix3 0 0 j) = (0 : EReal) := by
  have e : iblk m c 1 t (ix3 0 0 j) = V m c main_v44 (ix3 ⟨t.val / 32, by have := lt t; omega⟩ 0 j) := by
    blk_ext! [iblk, idx t]
  rw [e, h0_eq]

instance : Subsingleton S_.Idx := ⟨fun a b => funext fun i => i.elim0⟩

theorem inf_bits : Ideal.ofBits FTy.f32 0x7F800000#32 = ⊤ := by
  norm_num [Ideal.ofBits, Ideal.ieee]
  rw [if_pos (by decide), if_neg (by decide)]

theorem real_of_lt (x : EReal) (h : max x (-x) < ⊤) : IsR x := by
  induction x with
  | bot => simp at h
  | coe r => exact ⟨r, rfl⟩
  | top => simp at h

/-- A bounded array is made of real numbers. -/
theorem real_of {s : Shape} {axes : List (Fin s.rank)} (x : FVec Ideal s .f32) (hb : S_.BroadcastsInDim s (![] : Fin 0 → Fin s.rank)) (h : s.ReducesTo axes S_) (hu : 0 < S_.numel)
    (e : ∀ j, Host.reduce IntOp.andi (cmpf .olt (Host.absf x) (broadcastInDim s ![] hb (constant S_ .f32 0x7F800000#32))) (constantI S_ 1 1#1) h hu j = 1#1)
    (i : s.Idx) : IsR (x i) := by
  have k := Host.reduce_andi_all _ _ h hu (fun i => i.elim0) (e _) i
  have k : Ideal.cmp .olt (max (x i) (-x i)) (Ideal.ofBits FTy.f32 0x7F800000#32) = 1#1 := k
  rw [inf_bits] at k
  exact real_of_lt _ ((WordCmp.ofBool_decide_eq_one_iff _).1 k)

/-- Two arrays found equal are. -/
theorem eq_of {s : Shape} {axes : List (Fin s.rank)} (x y : FVec Ideal s .f32) (h : s.ReducesTo axes S_) (hu : 0 < S_.numel)
    (e : ∀ j, Host.reduce IntOp.andi (cmpf .oeq x y) (constantI S_ 1 1#1) h hu j = 1#1) (i : s.Idx) : x i = y i := by
  have k := Host.reduce_andi_all _ _ h hu (fun i => i.elim0) (e _) i
  have k : Ideal.cmp .oeq (x i) (y i) = 1#1 := k
  exact (WordCmp.ofBool_decide_eq_one_iff _).1 k

/-- The precondition's facts, one by one. -/
structure Ok (a0 : FVec Ideal S2x8192x256 .f32) (a1 a2 : FVec Ideal S256x1024 .f32) (a3 a4 : FVec Ideal S1024x16 .f32) (a6 : FVec Ideal S16x16x64 .f32) : Prop where
  u : ∀ i, IsR (a0 i)
  pr : ∀ i, IsR (a1 i)
  pi : ∀ i, IsR (a2 i)
  b : ∀ i, IsR (a3 i)
  b' : ∀ i, IsR (a4 i)
  c' : ∀ i, IsR (a6 i)
  re : ∀ (r : Fin 255) (q : Fin 1024), a1 (ix2 ⟨1 + r.val, by omega⟩ q) = (a1 (ix2 ⟨r.val, by omega⟩ q) * a1 (ix2 0 q) - a2 (ix2 ⟨r.val, by omega⟩ q) * a2 (ix2 0 q) : EReal)
  im : ∀ (r : Fin 255) (q : Fin 1024), a2 (ix2 ⟨1 + r.val, by omega⟩ q) = (a1 (ix2 ⟨r.val, by omega⟩ q) * a2 (ix2 0 q) + a2 (ix2 ⟨r.val, by omega⟩ q) * a1 (ix2 0 q) : EReal)

theorem andi_left {x y : IVec S_ 1} (h : ∀ j, andi x y j = 1#1) : ∀ j, x j = 1#1 := fun j => (IntOp.andi_eq_one.1 (h j)).1
theorem andi_right {x y : IVec S_ 1} (h : ∀ j, andi x y j = 1#1) : ∀ j, y j = 1#1 := fun j => (IntOp.andi_eq_one.1 (h j)).2

theorem ok (a0 : FVec Ideal S2x8192x256 .f32) (a1 a2 : FVec Ideal S256x1024 .f32) (a3 a4 : FVec Ideal S1024x16 .f32) (a5 a6 : FVec Ideal S16x16x64 .f32) (a7 : FVec Ideal S256 .f32) (a8 : FVec Ideal S256x256 .f32) (a9 : FVec Ideal S256 .f32)
    (h : Cert.Pre_powers_and_finite.fn (F := Ideal) a0 a1 a2 a3 a4 a5 a6 a7 a8 a9 = fun _ => 1#1) : Ok a0 a1 a2 a3 a4 a6 := by
  have h : ∀ j, _ = _ := fun j => congrFun h j
  unfold Cert.Pre_powers_and_finite.fn Cert.Pre_powers_and_finite.fn_part1 Cert.Pre_powers_and_finite.fn_part2 at h
  have e8 := andi_right h
  have h := andi_left h
  have e7 := andi_right h
  have h := andi_left h
  have e6 := andi_right h
  have h := andi_left h
  have e5 := andi_right h
  have h := andi_left h
  have e4 := andi_right h
  have h := andi_left h
  have e3 := andi_right h
  have h := andi_left h
  have e2 := andi_right h
  have h := andi_left h
  refine ⟨real_of a0 _ _ _ h, real_of a1 _ _ _ e2, real_of a2 _ _ _ e3, real_of a3 _ _ _ e4, real_of a4 _ _ _ e5, real_of a6 _ _ _ e6, fun r q => ?_, fun r q => ?_⟩
  · have k := eq_of _ _ _ _ e7 (ix2 r q)
    revert k
    pointwise
    exact id
  · have k := eq_of _ _ _ _ e8 (ix2 r q)
    revert k
    pointwise
    exact id

theorem left_h_A (h : t.val % 32 = 0) (y : S1x1x2048.Idx) : (outsAt0 m c t.val t.isLt).2.1 y = View.canon [⟨Rect.unit (s := S1x1x2048) ![0, 0, 1024] S1x1x1024.size inb_S1x1x2048_S1x1x1024_0_0_1024, k0_pay52 (tIm m c t)⟩,
    ⟨Rect.unit (s := S1x1x2048) ![0, 0, 0] S1x1x1024.size inb_S1x1x2048_S1x1x1024_0_0_0, k0_pay51 (tRe m c t)⟩] y := by
  rw [outsAt0_A m c t h]
  frame_out
  unfold tRe tIm carry
  rw [if_pos h]
  unfold hRe hIm scan x128 x32 x8 x2
  dsimp only
  rfl

theorem left_h_B (h : ¬ t.val % 32 = 0) (y : S1x1x2048.Idx) : (outsAt0 m c t.val t.isLt).2.1 y = View.canon [⟨Rect.unit (s := S1x1x2048) ![0, 0, 1024] S1x1x1024.size inb_S1x1x2048_S1x1x1024_0_0_1024, k0_pay52 (tIm m c t)⟩,
    ⟨Rect.unit (s := S1x1x2048) ![0, 0, 0] S1x1x1024.size inb_S1x1x2048_S1x1x1024_0_0_0, k0_pay51 (tRe m c t)⟩] y := by
  rw [outsAt0_B m c t h]
  frame_out
  simp only [read_unread_whole]
  unfold tRe tIm carry
  rw [if_neg h]
  unfold hRe hIm scan x128 x32 x8 x2
  dsimp only

theorem canon_h (a b : Vec Ideal S1x1x1024 .f32) (q : Fin 1024) :
    (View.canon (Val := Elt Ideal) (e := .f32) [⟨Rect.unit (s := S1x1x2048) ![0, 0, 1024] S1x1x1024.size inb_S1x1x2048_S1x1x1024_0_0_1024, b⟩,
      ⟨Rect.unit (s := S1x1x2048) ![0, 0, 0] S1x1x1024.size inb_S1x1x2048_S1x1x1024_0_0_0, a⟩] (ix3 0 0 ⟨q.val, by omega⟩) = a (ix3 0 0 q)) ∧
    View.canon (Val := Elt Ideal) (e := .f32) [⟨Rect.unit (s := S1x1x2048) ![0, 0, 1024] S1x1x1024.size inb_S1x1x2048_S1x1x1024_0_0_1024, b⟩,
      ⟨Rect.unit (s := S1x1x2048) ![0, 0, 0] S1x1x1024.size inb_S1x1x2048_S1x1x1024_0_0_0, a⟩] (ix3 0 0 ⟨1024 + q.val, by omega⟩) = b (ix3 0 0 q) := by
  have e0 : (ix3 0 0 ⟨q.val, by omega⟩ : S1x1x2048.Idx) = (Rect.unit (s := S1x1x2048) ![0, 0, 0] S1x1x1024.size inb_S1x1x2048_S1x1x1024_0_0_0).emb (ix3 0 0 q) := by
    blk_ext
  have e1 : (ix3 0 0 ⟨1024 + q.val, by omega⟩ : S1x1x2048.Idx) = (Rect.unit (s := S1x1x2048) ![0, 0, 1024] S1x1x1024.size inb_S1x1x2048_S1x1x1024_0_0_1024).emb (ix3 0 0 q) := by
    blk_ext
  constructor
  · rw [View.canon_cons_of_not_mem, e0, View.canon_cons_emb]
    exact Rect.not_mem_set_of_axis _ _ 2 1024 1024 rfl rfl rfl (Or.inl q.isLt)
  · rw [e1, View.canon_cons_emb]

theorem pay51_at (x : FVec Ideal S256x1024 .f32) (q : Fin 1024) : k0_pay51 x (ix3 0 0 q) = x (ix2 255 q) := by
  unfold k0_pay51
  pointwise

theorem pay52_at (x : FVec Ideal S256x1024 .f32) (q : Fin 1024) : k0_pay52 x (ix3 0 0 q) = x (ix2 255 q) := by
  unfold k0_pay52
  pointwise

/-- The block of the second output: the states of the last row. -/
theorem left_h (q : Fin 1024) : (outsAt0 m c t.val t.isLt).2.1 (ix3 0 0 ⟨q.val, by omega⟩) = tRe m c t (ix2 255 q) ∧
    (outsAt0 m c t.val t.isLt).2.1 (ix3 0 0 ⟨1024 + q.val, by omega⟩) = tIm m c t (ix2 255 q) := by
  have e := canon_h (k0_pay51 (tRe m c t)) (k0_pay52 (tIm m c t)) q
  by_cases h : t.val % 32 = 0
  · rw [left_h_A m c t h, left_h_A m c t h, e.1, e.2, pay51_at, pay52_at]
    exact ⟨rfl, rfl⟩
  · rw [left_h_B m c t h, left_h_B m c t h, e.1, e.2, pay51_at, pay52_at]
    exact ⟨rfl, rfl⟩

/-! ## The blocks of the matrices -/

set_option maxHeartbeats 1000000 in
theorem wc_eq : V m c main_v40 = truncf .bf16 (concatenate S2048x256 0 [⟨S1024x256, bdOut (m ((c.tc : Thread nD τ).loc main_arg5))⟩,
    ⟨S1024x256, Host.negf (bdOut (m ((c.tc : Thread nD τ).loc main_arg6)))⟩] concatenates_S1024x256_S1024x256_S2048x256_d0) bitsLt_bf16_f32 := by
  show StableHlo.after hostOps0 _ _ = _
  after_reads_simp
  rfl

theorem d_at (k : Fin 256) : iblk m c 6 t (ix2 0 k) = m ((c.tc : Thread nD τ).loc main_arg7) (ix1 k) := by
  blk_ext! [iblk, V, idx t]
theorem gw_at (j k : Fin 256) : iblk m c 7 t (ix2 j k) = m ((c.tc : Thread nD τ).loc main_arg8) (ix2 j k) := by
  blk_ext! [iblk, V, idx t]
theorem gb_at (k : Fin 256) : iblk m c 8 t (ix2 0 k) = m ((c.tc : Thread nD τ).loc main_arg9) (ix1 k) := by
  blk_ext! [iblk, V, idx t]
theorem wc_at (i : Fin 2048) (j : Fin 256) : iblk m c 5 t (ix2 i j) = V m c main_v40 (ix2 i j) := by
  blk_ext! [iblk, idx t]

theorem cat_in (x y : FVec Ideal S256x1024 .f32) (i : Fin 256) (q : Fin 1024) :
    truncf .bf16 (concatenate S256x2048 1 [⟨S256x1024, x⟩, ⟨S256x1024, y⟩] concatenates_S256x1024_S256x1024_S256x2048_d1) bitsLt_bf16_f32
      (ix2 i ⟨q.val, by omega⟩) = x (ix2 i q) := by
  pointwise
theorem cat_in' (x y : FVec Ideal S256x1024 .f32) (i : Fin 256) (q : Fin 1024) :
    truncf .bf16 (concatenate S256x2048 1 [⟨S256x1024, x⟩, ⟨S256x1024, y⟩] concatenates_S256x1024_S256x1024_S256x2048_d1) bitsLt_bf16_f32
      (ix2 i ⟨1024 + q.val, by omega⟩) = y (ix2 i q) := by
  pointwise
theorem cat_out (x y : FVec Ideal S1024x256 .f32) (q : Fin 1024) (k : Fin 256) :
    truncf .bf16 (concatenate S2048x256 0 [⟨S1024x256, x⟩, ⟨S1024x256, y⟩] concatenates_S1024x256_S1024x256_S2048x256_d0) bitsLt_bf16_f32
      (ix2 ⟨q.val, by omega⟩ k) = x (ix2 q k) := by
  pointwise
theorem cat_out' (x y : FVec Ideal S1024x256 .f32) (q : Fin 1024) (k : Fin 256) :
    truncf .bf16 (concatenate S2048x256 0 [⟨S1024x256, x⟩, ⟨S1024x256, y⟩] concatenates_S1024x256_S1024x256_S2048x256_d0) bitsLt_bf16_f32
      (ix2 ⟨1024 + q.val, by omega⟩ k) = y (ix2 q k) := by
  pointwise

theorem ld_c (w : Vec Ideal S2048x256 .bf16) (q : Fin 1024) (k : Fin 256) :
    View.ld w (Rect.unit (s := S2048x256) ![0, 0] S1024x256.size inb_S2048x256_S1024x256_0_0) (ix2 q k) = w (ix2 ⟨q.val, by omega⟩ k) := by
  refine congrArg w ?_
  blk_ext
  · show 0 + 1 * q.val = q.val; omega
  · show 0 + 1 * k.val = k.val; omega
theorem ld_c' (w : Vec Ideal S2048x256 .bf16) (q : Fin 1024) (k : Fin 256) :
    View.ld w (Rect.unit (s := S2048x256) ![1024, 0] S1024x256.size inb_S2048x256_S1024x256_1024_0) (ix2 q k) = w (ix2 ⟨1024 + q.val, by omega⟩ k) := by
  refine congrArg w ?_
  blk_ext
  · show 1024 + 1 * q.val = 1024 + q.val; omega
  · show 0 + 1 * k.val = k.val; omega
theorem ld_h (w : Vec Ideal S1x1x2048 .f32) (q : Fin 1024) :
    View.ld w (Rect.unit (s := S1x1x2048) ![0, 0, 0] S1x1x1024.size inb_S1x1x2048_S1x1x1024_0_0_0) (ix3 0 0 q) = w (ix3 0 0 ⟨q.val, by omega⟩) := by
  refine congrArg w ?_
  blk_ext
  · show 0 + 1 * q.val = q.val; omega
theorem ld_h' (w : Vec Ideal S1x1x2048 .f32) (q : Fin 1024) :
    View.ld w (Rect.unit (s := S1x1x2048) ![0, 0, 1024] S1x1x1024.size inb_S1x1x2048_S1x1x1024_0_0_1024) (ix3 0 0 q) = w (ix3 0 0 ⟨1024 + q.val, by omega⟩) := by
  refine congrArg w ?_
  blk_ext
  · show 1024 + 1 * q.val = 1024 + q.val; omega

theorem pay2_at (w : Vec Ideal S1x1x1024 .f32) (q : Fin 1024) : k0_pay2 w (ix2 0 q) = w (ix3 0 0 q) := by
  unfold k0_pay2
  pointwise
theorem pay3_at (w : Vec Ideal S1x1x1024 .f32) (q : Fin 1024) : k0_pay3 w (ix2 0 q) = w (ix3 0 0 q) := by
  unfold k0_pay3
  pointwise
theorem pay6_at (u : Vec Ideal S1x256x256 .f32) (w : Vec Ideal S256x2048 .bf16) (r : Fin 256) (q : Fin 1024) :
    k0_pay6 u w (ix2 r q) = (∑ x : Fin 256, u (ix3 0 r x) * w (ix2 x ⟨q.val, by omega⟩) : EReal) := by
  unfold k0_pay6 k0_pay5 k0_pay4
  pointwise
theorem pay7_at (u : Vec Ideal S1x256x256 .f32) (w : Vec Ideal S256x2048 .bf16) (r : Fin 256) (q : Fin 1024) :
    k0_pay7 u w (ix2 r q) = (∑ x : Fin 256, u (ix3 0 r x) * w (ix2 x ⟨1024 + q.val, by omega⟩) : EReal) := by
  unfold k0_pay7 k0_pay5 k0_pay4
  pointwise
theorem pay53_at (u : FVec Ideal S256x256 .f32) (x y : FVec Ideal S256x1024 .f32) (w w' : Vec Ideal S1024x256 .bf16) (d : Vec Ideal S1x256 .f32) (r k : Fin 256) :
    k0_pay53 u x y w w' d (ix2 r k) = ((∑ j : Fin 1024, x (ix2 r j) * w (ix2 j k)) + (∑ j : Fin 1024, y (ix2 r j) * w' (ix2 j k)) + d (ix2 0 k) * u (ix2 r k) : EReal) := by
  unfold k0_pay53
  pointwise
theorem pay4_at (u : Vec Ideal S1x256x256 .f32) (r k : Fin 256) : k0_pay4 u (ix2 r k) = u (ix3 0 r k) := by
  unfold k0_pay4
  pointwise
theorem pay1_at (u : FVec Ideal S256x256 .f32) (x y : FVec Ideal S256x1024 .f32) (w w' : Vec Ideal S1024x256 .bf16) (d : Vec Ideal S1x256 .f32)
    (g : Vec Ideal S256x256 .bf16) (b : Vec Ideal S1x256 .f32) (r k : Fin 256) :
    k0_pay1 (k0_pay54 u x y w w' d) (k0_pay55 u x y w w' d) g b (ix3 0 r k) =
      gated (fun k => k0_pay53 u x y w w' d (ix2 r k)) (fun j k => g (ix2 j k)) (fun k => b (ix2 0 k)) k := by
  unfold k0_pay1 k0_pay54 k0_pay55 gated gelu
  generalize k0_pay53 u x y w w' d = Y
  pointwise
  have e : ∀ y z : EReal, Ideal.ofBits FTy.f32 1056964608#32 * y * z = y * (Ideal.ofBits FTy.f32 1056964608#32 * z) := fun y z => by
    rw [mul_comm (Ideal.ofBits FTy.f32 1056964608#32) y, mul_assoc]
  simp only [e, zero_sub]

end Cert.Proof.S5
end
-- ==== Proof.S5Ref.lean ====
module

public import proofs.«01_k».proof.Proof.Scan
public import proofs.«01_k».proof.Proof.Gen.ReferenceIdeal.Run
public import Idealize.ShloMosaic.Lib.Pointwise
public import Idealize.ShloMosaic.Lib.DynamicIndex
public import Idealize.ShloMosaic.Lib.WordCmp

@[expose] public section

set_option maxRecDepth 16384

noncomputable section

/-! The reference's recurrence, one token at a time, and what it makes of the states. -/

namespace Cert.Proof.S5Ref

open Idealize.ShloMosaic Idealize.ShloMosaic.TcCoe Idealize.ShloMosaic.StableHlo Idealize.SL.Sem
open Cert.ReferenceIdeal Cert.ReferenceIdeal.Gen Cert.ReferenceIdeal.Value Cert.Proof.Scan

variable (m : (ℓ : Loc nD τ sig) → Buf (Elt Ideal) ℓ) (c : Dev nD)

/-- What the loop carries after `k` trips. -/
abbrev lp (k : ℕ) : Valuation τ sig (Elt Ideal) := STEP^[k] (entryContents preI m c)

theorem lp_ctr (k : ℕ) : lp m c k (Proc.devRef .tc main_v18_4) = fun _ => BitVec.ofNat 32 k := by
  show (STEP^[k] (entryContents preI m c)) _ = _
  rw [← atK_agree m c k main_v18_4 (by decide), atK_ctr]
  funext _
  simp [Scf.iv]

/-- The inputs of all modes, as the host computes them before the loop. -/
def inT (U : FVec Ideal S2x8192x256 .f32) (B : FVec Ideal S1024x16 .f32) : FVec Ideal S8192x2x16x64 .f32 :=
  transpose S8192x2x16x64 [1, 0, 2, 3] (transpose S2x8192x16x64 [2, 3, 0, 1] (Host.dotGeneral dot_S16x64x16_S2x8192x16x16_S16x64x2x8192_2_3_1_01_0_2 none
    (shapeCast S16x64x16 B shapeCasts_S1024x16_S16x64x16) (shapeCast S2x8192x16x16 U shapeCasts_S2x8192x256_S2x8192x16x16))
    transposes_S16x64x2x8192_S2x8192x16x64_2_3_0_1) transposes_S2x8192x16x64_S8192x2x16x64_1_0_2_3

/-- Row 0 of a table of powers, by group. -/
def rowT (P : FVec Ideal S256x1024 .f32) : FVec Ideal S16x64 .f32 :=
  shapeCast S16x64 (shapeCast S1024 (extractStridedSlice S1x1024 ![0, 0] P slices_S256x1024_S1x1024_0_0) shapeCasts_S1x1024_S1024) shapeCasts_S1024_S16x64

theorem lp_0 (k : ℕ) : lp m c k (Proc.devRef .tc main_v18_0) = inT (m ((c.tc : Thread nD τ).loc main_arg0)) (m ((c.tc : Thread nD τ).loc main_arg3)) := by
  induction k with
  | zero =>
    simp only [lp, Function.iterate_zero, id, entryContents, afterL_cons, afterL_nil]
    after_reads_simp
    rfl
  | succ k ih => rw [lp, Function.iterate_succ_apply', STEP_main_v18_0]; exact ih

theorem lp_1 (k : ℕ) : lp m c k (Proc.devRef .tc main_v18_1) = inT (m ((c.tc : Thread nD τ).loc main_arg0)) (m ((c.tc : Thread nD τ).loc main_arg4)) := by
  induction k with
  | zero =>
    simp only [lp, Function.iterate_zero, id, entryContents, afterL_cons, afterL_nil]
    after_reads_simp
    rfl
  | succ k ih => rw [lp, Function.iterate_succ_apply', STEP_main_v18_1]; exact ih

theorem lp_2 (k : ℕ) : lp m c k (Proc.devRef .tc main_v18_2) = rowT (m ((c.tc : Thread nD τ).loc main_arg1)) := by
  induction k with
  | zero =>
    simp only [lp, Function.iterate_zero, id, entryContents, afterL_cons, afterL_nil]
    after_reads_simp
    rfl
  | succ k ih => rw [lp, Function.iterate_succ_apply', STEP_main_v18_2]; exact ih

theorem lp_3 (k : ℕ) : lp m c k (Proc.devRef .tc main_v18_3) = rowT (m ((c.tc : Thread nD τ).loc main_arg2)) := by
  induction k with
  | zero =>
    simp only [lp, Function.iterate_zero, id, entryContents, afterL_cons, afterL_nil]
    after_reads_simp
    rfl
  | succ k ih => rw [lp, Function.iterate_succ_apply', STEP_main_v18_3]; exact ih

theorem in_at (U : FVec Ideal S2x8192x256 .f32) (B : FVec Ideal S1024x16 .f32) (n : Fin 8192) (b : Fin 2) (g : Fin 16) (p : Fin 64) :
    inT U B (ix4 n b g p) = bu (fun b n k => U (ix3 b n k)) (fun q x => B (ix2 q x)) b ⟨g.val * 64 + p.val, by omega⟩ n := by
  unfold inT bu
  rw [dif_pos n.isLt]
  pointwise
  have e : (g.val * 64 + p.val) / 64 = g.val := by omega
  simp only [e]

theorem row0_at (P : FVec Ideal S256x1024 .f32) (g : Fin 16) (p : Fin 64) : rowT P (ix2 g p) = P (ix2 0 ⟨g.val * 64 + p.val, by omega⟩) := by
  unfold rowT
  pointwise

/-- The starts of the loop's slices. -/
theorem starts (w : (⟨S_, .i32⟩ : BufTy).Contents (Elt Ideal)) (k : ℕ) (hk : k < 8192) (hw : w = fun _ => BitVec.ofNat 32 k) (a : Fin 4) :
    (((![w, constantI S_ 32 0#32, constantI S_ 32 0#32, constantI S_ 32 0#32] : Fin 4 → (⟨S_, .i32⟩ : BufTy).Contents (Elt Ideal))) a
      (Shape.Idx.first h_S_)).toInt = ((![k, 0, 0, 0] : Fin 4 → ℕ) a : Int) := by
  subst hw
  fin_cases a
  · exact toInt_ofNat_of_lt (by omega)
  · rfl
  · rfl
  · rfl

theorem fits (k : ℕ) (hk : k < 8192) : S8192x2x16x64.Slices (![k, 0, 0, 0] : Fin 4 → ℕ) S1x2x16x64 :=
  ⟨rfl, fun a => by
    fin_cases a
    · show k + 1 ≤ 8192
      omega
    · exact Nat.le_refl 2
    · exact Nat.le_refl 16
    · exact Nat.le_refl 64⟩

theorem slice_eq (x : FVec Ideal S8192x2x16x64 .f32) (w : (⟨S_, .i32⟩ : BufTy).Contents (Elt Ideal)) (k : ℕ) (hk : k < 8192)
    (hw : w = fun _ => BitVec.ofNat 32 k) :
    Host.dynamicSlice S1x2x16x64 x (fun a => (((![w, constantI S_ 32 0#32, constantI S_ 32 0#32, constantI S_ 32 0#32] :
      Fin 4 → (⟨S_, .i32⟩ : BufTy).Contents (Elt Ideal))) a (Shape.Idx.first h_S_)).toInt) sliceFits_S8192x2x16x64_S1x2x16x64 =
    extractStridedSlice S1x2x16x64 ![k, 0, 0, 0] x (fits k hk) :=
  WordCmp.dynamicSlice_eq_extract S1x2x16x64 x _ _ _ (fits k hk) (starts w k hk hw)

/-- One trip's new state: the real part. -/
def tripRe (x : FVec Ideal S8192x2x16x64 .f32) (p2 p3 : FVec Ideal S16x64 .f32) (h h' : FVec Ideal S2x16x64 .f32)
    (w : (⟨S_, .i32⟩ : BufTy).Contents (Elt Ideal)) : FVec Ideal S2x16x64 .f32 :=
  addf (subf (mulf (broadcastInDim S2x16x64 ![0, 1, 2] bcast_S1x16x64_S2x16x64_0_1_2 (broadcastInDim S1x16x64 ![1, 2] bcast_S16x64_S1x16x64_1_2 p2)) h)
    (mulf (broadcastInDim S2x16x64 ![0, 1, 2] bcast_S1x16x64_S2x16x64_0_1_2 (broadcastInDim S1x16x64 ![1, 2] bcast_S16x64_S1x16x64_1_2 p3)) h'))
    (shapeCast S2x16x64 (Host.dynamicSlice S1x2x16x64 x (fun a => (((![w, constantI S_ 32 0#32, constantI S_ 32 0#32, constantI S_ 32 0#32] :
      Fin 4 → (⟨S_, .i32⟩ : BufTy).Contents (Elt Ideal))) a (Shape.Idx.first h_S_)).toInt) sliceFits_S8192x2x16x64_S1x2x16x64) shapeCasts_S1x2x16x64_S2x16x64)

/-- One trip's new state: the imaginary part. -/
def tripIm (x : FVec Ideal S8192x2x16x64 .f32) (p2 p3 : FVec Ideal S16x64 .f32) (h h' : FVec Ideal S2x16x64 .f32)
    (w : (⟨S_, .i32⟩ : BufTy).Contents (Elt Ideal)) : FVec Ideal S2x16x64 .f32 :=
  addf (addf (mulf (broadcastInDim S2x16x64 ![0, 1, 2] bcast_S1x16x64_S2x16x64_0_1_2 (broadcastInDim S1x16x64 ![1, 2] bcast_S16x64_S1x16x64_1_2 p2)) h')
    (mulf (broadcastInDim S2x16x64 ![0, 1, 2] bcast_S1x16x64_S2x16x64_0_1_2 (broadcastInDim S1x16x64 ![1, 2] bcast_S16x64_S1x16x64_1_2 p3)) h))
    (shapeCast S2x16x64 (Host.dynamicSlice S1x2x16x64 x (fun a => (((![w, constantI S_ 32 0#32, constantI S_ 32 0#32, constantI S_ 32 0#32] :
      Fin 4 → (⟨S_, .i32⟩ : BufTy).Contents (Elt Ideal))) a (Shape.Idx.first h_S_)).toInt) sliceFits_S8192x2x16x64_S1x2x16x64) shapeCasts_S1x2x16x64_S2x16x64)

theorem v66_at (V : Valuation τ sig (Elt Ideal)) (k : ℕ) (hk : k < 8192) (hw : V (Proc.devRef .tc main_v18_4) = fun _ => BitVec.ofNat 32 k)
    (x : FVec Ideal S8192x2x16x64 .f32) (hx : V (Proc.devRef .tc main_v18_0) = x)
    (p2 p3 : FVec Ideal S16x64 .f32) (h2 : V (Proc.devRef .tc main_v18_2) = p2) (h3 : V (Proc.devRef .tc main_v18_3) = p3)
    (h h' : FVec Ideal S2x16x64 .f32) (h5 : V (Proc.devRef .tc main_v18_5) = h) (h6 : V (Proc.devRef .tc main_v18_6) = h')
    (b : Fin 2) (g : Fin 16) (p : Fin 64) : res_main_while0b_v66 V (ix3 b g p) =
      p2 (ix2 g p) * h (ix3 b g p) - p3 (ix2 g p) * h' (ix3 b g p) + x (ix4 ⟨k, hk⟩ b g p) := by
  have e : res_main_while0b_v66 V = tripRe (V (Proc.devRef .tc main_v18_0)) (V (Proc.devRef .tc main_v18_2)) (V (Proc.devRef .tc main_v18_3))
    (V (Proc.devRef .tc main_v18_5)) (V (Proc.devRef .tc main_v18_6)) (V (Proc.devRef .tc main_v18_4)) := rfl
  rw [e, hx, h2, h3, h5, h6]
  unfold tripRe
  rw [slice_eq x _ k hk hw]
  pointwise

theorem v74_at (V : Valuation τ sig (Elt Ideal)) (k : ℕ) (hk : k < 8192) (hw : V (Proc.devRef .tc main_v18_4) = fun _ => BitVec.ofNat 32 k)
    (x : FVec Ideal S8192x2x16x64 .f32) (hx : V (Proc.devRef .tc main_v18_1) = x)
    (p2 p3 : FVec Ideal S16x64 .f32) (h2 : V (Proc.devRef .tc main_v18_2) = p2) (h3 : V (Proc.devRef .tc main_v18_3) = p3)
    (h h' : FVec Ideal S2x16x64 .f32) (h5 : V (Proc.devRef .tc main_v18_5) = h) (h6 : V (Proc.devRef .tc main_v18_6) = h')
    (b : Fin 2) (g : Fin 16) (p : Fin 64) : res_main_while0b_v74 V (ix3 b g p) =
      p2 (ix2 g p) * h' (ix3 b g p) + p3 (ix2 g p) * h (ix3 b g p) + x (ix4 ⟨k, hk⟩ b g p) := by
  have e : res_main_while0b_v74 V = tripIm (V (Proc.devRef .tc main_v18_1)) (V (Proc.devRef .tc main_v18_2)) (V (Proc.devRef .tc main_v18_3))
    (V (Proc.devRef .tc main_v18_5)) (V (Proc.devRef .tc main_v18_6)) (V (Proc.devRef .tc main_v18_4)) := rfl
  rw [e, hx, h2, h3, h5, h6]
  unfold tripIm
  rw [slice_eq x _ k hk hw]
  pointwise

/-- The states' array after a trip: row `k` is the trip's state. -/
theorem upd_at (x : FVec Ideal S8192x2x16x64 .f32) (y : FVec Ideal S2x16x64 .f32) (k : ℕ) (hk : k < 8192) (n : Fin 8192) (b : Fin 2) (g : Fin 16) (p : Fin 64) :
    updateSlice x (broadcastInDim S1x2x16x64 ![1, 2, 3] bcast_S2x16x64_S1x2x16x64_1_2_3 y) ![k, 0, 0, 0] (fits k hk) (ix4 n b g p) =
      if n.val = k then y (ix3 b g p) else x (ix4 n b g p) := by
  rw [updateSlice_apply]
  by_cases e : n.val = k
  · rw [if_pos e, dif_pos (by
      intro a
      fin_cases a
      · show k ≤ n.val ∧ n.val < k + 1
        omega
      · show 0 ≤ b.val ∧ b.val < 0 + 2
        omega
      · show 0 ≤ g.val ∧ g.val < 0 + 16
        omega
      · show 0 ≤ p.val ∧ p.val < 0 + 64
        omega)]
    pointwise
  · rw [if_neg e, dif_neg fun h => e (by
      have h0 : k ≤ n.val ∧ n.val < k + 1 := h 0
      omega)]

theorem update_at (x : FVec Ideal S8192x2x16x64 .f32) (y : FVec Ideal S2x16x64 .f32) (w : (⟨S_, .i32⟩ : BufTy).Contents (Elt Ideal)) (k : ℕ)
    (hk : k < 8192) (hw : w = fun _ => BitVec.ofNat 32 k) (n : Fin 8192) (b : Fin 2) (g : Fin 16) (p : Fin 64) :
    Host.dynamicUpdateSlice x (broadcastInDim S1x2x16x64 ![1, 2, 3] bcast_S2x16x64_S1x2x16x64_1_2_3 y) (fun a => (((![w, constantI S_ 32 0#32,
      constantI S_ 32 0#32, constantI S_ 32 0#32] : Fin 4 → (⟨S_, .i32⟩ : BufTy).Contents (Elt Ideal))) a (Shape.Idx.first h_S_)).toInt)
      updateFits_S8192x2x16x64_S1x2x16x64 (ix4 n b g p) = if n.val = k then y (ix3 b g p) else x (ix4 n b g p) :=
  (congrFun (WordCmp.dynamicUpdateSlice_eq_update x _ _ _ _ (fits k hk) (starts w k hk hw)) _).trans (upd_at x y k hk n b g p)

theorem s7_at (V : Valuation τ sig (Elt Ideal)) (k : ℕ) (hk : k < 8192) (hw : V (Proc.devRef .tc main_v18_4) = fun _ => BitVec.ofNat 32 k)
    (n : Fin 8192) (b : Fin 2) (g : Fin 16) (p : Fin 64) : step_main_v18_7 V (ix4 n b g p) =
      if n.val = k then res_main_while0b_v66 V (ix3 b g p) else V (Proc.devRef .tc main_v18_7) (ix4 n b g p) := by
  exact update_at (V (Proc.devRef .tc main_v18_7)) (res_main_while0b_v66 V) _ k hk hw n b g p

theorem s8_at (V : Valuation τ sig (Elt Ideal)) (k : ℕ) (hk : k < 8192) (hw : V (Proc.devRef .tc main_v18_4) = fun _ => BitVec.ofNat 32 k)
    (n : Fin 8192) (b : Fin 2) (g : Fin 16) (p : Fin 64) : step_main_v18_8 V (ix4 n b g p) =
      if n.val = k then res_main_while0b_v74 V (ix3 b g p) else V (Proc.devRef .tc main_v18_8) (ix4 n b g p) := by
  exact update_at (V (Proc.devRef .tc main_v18_8)) (res_main_while0b_v74 V) _ k hk hw n b g p

/-! The loop's invariant. -/

/-- The program's arguments, as the layer reads them. -/
abbrev aU (b : Fin 2) (n : Fin 8192) (k : Fin 256) : EReal := m ((c.tc : Thread nD τ).loc main_arg0) (ix3 b n k)
abbrev aA (q : Fin 1024) : EReal := m ((c.tc : Thread nD τ).loc main_arg1) (ix2 0 q)
abbrev aA' (q : Fin 1024) : EReal := m ((c.tc : Thread nD τ).loc main_arg2) (ix2 0 q)
abbrev aB (q : Fin 1024) (x : Fin 16) : EReal := m ((c.tc : Thread nD τ).loc main_arg3) (ix2 q x)
abbrev aB' (q : Fin 1024) (x : Fin 16) : EReal := m ((c.tc : Thread nD τ).loc main_arg4) (ix2 q x)
abbrev aC (g h : Fin 16) (p : Fin 64) : EReal := m ((c.tc : Thread nD τ).loc main_arg5) (ix3 g h p)
abbrev aC' (g h : Fin 16) (p : Fin 64) : EReal := m ((c.tc : Thread nD τ).loc main_arg6) (ix3 g h p)
abbrev aD (k : Fin 256) : EReal := m ((c.tc : Thread nD τ).loc main_arg7) (ix1 k)
abbrev aG (j k : Fin 256) : EReal := m ((c.tc : Thread nD τ).loc main_arg8) (ix2 j k)
abbrev aH (k : Fin 256) : EReal := m ((c.tc : Thread nD τ).loc main_arg9) (ix1 k)

/-- The layer's states over this program's arguments. -/
abbrev H (b : Fin 2) (q : Fin 1024) (n : ℕ) : ℂ := hid (aU m c) (aA m c) (aA' m c) (aB m c) (aB' m c) b q n

/-- What enters the recurrence is real. -/
structure Real : Prop where
  u : ∀ b n k, IsR (aU m c b n k)
  a : ∀ q, IsR (aA m c q)
  a' : ∀ q, IsR (aA' m c q)
  b : ∀ q x, IsR (aB m c q x)
  b' : ∀ q x, IsR (aB' m c q x)

theorem H_succ_re (R : Real m c) (b : Fin 2) (q : Fin 1024) (n : ℕ) :
    re (H m c b q (n + 1)) = aA m c q * re (H m c b q n) - aA' m c q * im (H m c b q n) + bu (aU m c) (aB m c) b q n := by
  unfold H hid
  rw [S, add_re, mul_re]
  simp only [re, im]
  rw [(R.a q).coe, (R.a' q).coe, (bu_real _ _ R.u R.b b q n).coe]

theorem H_succ_im (R : Real m c) (b : Fin 2) (q : Fin 1024) (n : ℕ) :
    im (H m c b q (n + 1)) = aA m c q * im (H m c b q n) + aA' m c q * re (H m c b q n) + bu (aU m c) (aB' m c) b q n := by
  unfold H hid
  rw [S, add_im, mul_im]
  simp only [re, im]
  rw [(R.a q).coe, (R.a' q).coe, (bu_real _ _ R.u R.b' b q n).coe]

/-- Zeros. -/
theorem lp_zero : (∀ i, lp m c 0 (Proc.devRef .tc main_v18_5) i = (0 : EReal)) ∧ (∀ i, lp m c 0 (Proc.devRef .tc main_v18_6) i = (0 : EReal)) := by
  constructor
  · intro i
    simp only [lp, Function.iterate_zero, id, entryContents, afterL_cons, afterL_nil]
    after_reads_simp
    exact Ideal.ofBits_zero_f32
  · intro i
    simp only [lp, Function.iterate_zero, id, entryContents, afterL_cons, afterL_nil]
    after_reads_simp
    exact Ideal.ofBits_zero_f32

/-- After `k` trips the carried state is the recurrence's. -/
theorem lp_56 (R : Real m c) (k : ℕ) (hk : k ≤ 8192) (b : Fin 2) (g : Fin 16) (p : Fin 64) :
    lp m c k (Proc.devRef .tc main_v18_5) (ix3 b g p) = (re (H m c b ⟨g.val * 64 + p.val, by omega⟩ k) : EReal) ∧
      lp m c k (Proc.devRef .tc main_v18_6) (ix3 b g p) = (im (H m c b ⟨g.val * 64 + p.val, by omega⟩ k) : EReal) := by
  induction k with
  | zero => exact ⟨(lp_zero m c).1 _, (lp_zero m c).2 _⟩
  | succ k ih =>
    obtain ⟨i5, i6⟩ := ih (by omega)
    rw [lp, Function.iterate_succ_apply', STEP_main_v18_5, STEP_main_v18_6]
    constructor
    · refine (v66_at (lp m c k) k (by omega) (lp_ctr m c k) _ (lp_0 m c k) _ _ (lp_2 m c k) (lp_3 m c k) _ _ rfl rfl b g p).trans ?_
      rw [i5, i6, row0_at, row0_at, in_at, H_succ_re m c R]
    · refine (v74_at (lp m c k) k (by omega) (lp_ctr m c k) _ (lp_1 m c k) _ _ (lp_2 m c k) (lp_3 m c k) _ _ rfl rfl b g p).trans ?_
      rw [i5, i6, row0_at, row0_at, in_at, H_succ_im m c R]

/-- After `k` trips the first `k` rows of the states' arrays are the recurrence's. -/
theorem lp_78 (R : Real m c) (k : ℕ) (hk : k ≤ 8192) (n : Fin 8192) (hn : n.val < k) (b : Fin 2) (g : Fin 16) (p : Fin 64) :
    lp m c k (Proc.devRef .tc main_v18_7) (ix4 n b g p) = (re (H m c b ⟨g.val * 64 + p.val, by omega⟩ (n.val + 1)) : EReal) ∧
      lp m c k (Proc.devRef .tc main_v18_8) (ix4 n b g p) = (im (H m c b ⟨g.val * 64 + p.val, by omega⟩ (n.val + 1)) : EReal) := by
  induction k with
  | zero => exact absurd hn (by omega)
  | succ k ih =>
    obtain ⟨i5, i6⟩ := lp_56 m c R (k + 1) hk b g p
    rw [lp, Function.iterate_succ_apply', STEP_main_v18_5] at i5
    rw [lp, Function.iterate_succ_apply', STEP_main_v18_6] at i6
    rw [lp, Function.iterate_succ_apply', STEP_main_v18_7, STEP_main_v18_8, s7_at _ k (by omega) (lp_ctr m c k), s8_at _ k (by omega) (lp_ctr m c k)]
    by_cases e : n.val = k
    · rw [if_pos e, if_pos e, e]
      exact ⟨i5, i6⟩
    · rw [if_neg e, if_neg e]
      exact ih (by omega) (by omega)

/-! The results. -/

theorem last_at (R : Real m c) (b : Fin 2) (j : Fin 1024) :
    out_main_v56 (lp m c 8192) (ix3 b 0 ⟨j.val, by omega⟩) = (re (H m c b j 8192) : EReal) ∧
      out_main_v56 (lp m c 8192) (ix3 b 0 ⟨1024 + j.val, by omega⟩) = (im (H m c b j 8192) : EReal) := by
  have e : (⟨j.val / 64 * 64 + j.val % 64, by omega⟩ : Fin 1024) = j := Fin.ext (by show j.val / 64 * 64 + j.val % 64 = j.val; omega)
  have h := lp_56 m c R 8192 (Nat.le_refl _) b ⟨j.val / 64, by omega⟩ ⟨j.val % 64, by omega⟩
  simp only [e] at h
  unfold out_main_v56
  constructor
  · refine Eq.trans ?_ h.1
    pointwise
  · refine Eq.trans ?_ h.2
    pointwise

/-- The mixed output before the GELU. -/
def yT (a0 : FVec Ideal S2x8192x256 .f32) (a5 a6 : FVec Ideal S16x16x64 .f32) (a7 : FVec Ideal S256 .f32) (h h' : FVec Ideal S8192x2x16x64 .f32) :
    FVec Ideal S2x8192x256 .f32 :=
  addf (shapeCast _ (subf (transpose S2x8192x16x16 [3, 2, 0, 1] (Host.dotGeneral dot_S16x16x64_S8192x2x16x64_S16x16x8192x2_2_3_1_01_0_2 none a5 h)
    transposes_S16x16x8192x2_S2x8192x16x16_3_2_0_1) (transpose S2x8192x16x16 [3, 2, 0, 1] (Host.dotGeneral
    dot_S16x16x64_S8192x2x16x64_S16x16x8192x2_2_3_1_01_0_2 none a6 h') transposes_S16x16x8192x2_S2x8192x16x16_3_2_0_1))
    shapeCasts_S2x8192x16x16_S2x8192x256) (mulf (broadcastInDim S2x8192x256 ![0, 1, 2] bcast_S1x1x256_S2x8192x256_0_1_2
    (broadcastInDim S1x1x256 ![2] bcast_S256_S1x1x256_2 a7)) a0)

/-- The GELU. -/
def gT (Y : FVec Ideal S2x8192x256 .f32) : FVec Ideal S2x8192x256 .f32 :=
  mulf Y (mulf (broadcastInDim S2x8192x256 ![] bcast_S_S2x8192x256 (constant S_ .f32 0x3F000000#32)) (addf (broadcastInDim S2x8192x256 ![]
    bcast_S_S2x8192x256 (constant S_ .f32 0x3F800000#32)) (Host.tanh (mulf (broadcastInDim S2x8192x256 ![] bcast_S_S2x8192x256 (constant S_ .f32
    0x3F4C422A#32)) (addf Y (mulf (broadcastInDim S2x8192x256 ![] bcast_S_S2x8192x256 (constant S_ .f32 0x3D372713#32)) (mulf (mulf Y Y) Y)))))))

/-- The gate. -/
def oT (Y : FVec Ideal S2x8192x256 .f32) (a8 : FVec Ideal S256x256 .f32) (a9 : FVec Ideal S256 .f32) : FVec Ideal S2x8192x256 .f32 :=
  mulf Y (Host.divf (broadcastInDim S2x8192x256 ![] bcast_S_S2x8192x256 (constant S_ .f32 0x3F800000#32)) (addf (broadcastInDim S2x8192x256 ![]
    bcast_S_S2x8192x256 (constant S_ .f32 0x3F800000#32)) (Host.exp (Host.negf (addf (Host.dotGeneral dot_S2x8192x256_S256x256_S2x8192x256_2_0_01_1_n_n none
    Y a8) (broadcastInDim S2x8192x256 ![0, 1, 2] bcast_S1x1x256_S2x8192x256_0_1_2 (broadcastInDim S1x1x256 ![2] bcast_S256_S1x1x256_2 a9)))))))

theorem out52_eq (V : Valuation τ sig (Elt Ideal)) : out_main_v52 V = oT (gT (yT (V (Proc.devRef .tc main_arg0)) (V (Proc.devRef .tc main_arg5))
    (V (Proc.devRef .tc main_arg6)) (V (Proc.devRef .tc main_arg7)) (V (Proc.devRef .tc main_v18_7)) (V (Proc.devRef .tc main_v18_8))))
    (V (Proc.devRef .tc main_arg8)) (V (Proc.devRef .tc main_arg9)) := rfl

theorem y_at (a0 : FVec Ideal S2x8192x256 .f32) (a5 a6 : FVec Ideal S16x16x64 .f32) (a7 : FVec Ideal S256 .f32) (h h' : FVec Ideal S8192x2x16x64 .f32)
    (b : Fin 2) (n : Fin 8192) (k : Fin 256) : yT a0 a5 a6 a7 h h' (ix3 b n k) =
      ∑ x, a5 (ix3 ⟨k.val / 16, by omega⟩ ⟨k.val % 16, by omega⟩ x) * h (ix4 n b ⟨k.val / 16, by omega⟩ x) -
        ∑ x, a6 (ix3 ⟨k.val / 16, by omega⟩ ⟨k.val % 16, by omega⟩ x) * h' (ix4 n b ⟨k.val / 16, by omega⟩ x) + a7 (ix1 k) * a0 (ix3 b n k) := by
  unfold yT
  pointwise

theorem g_at (Y : FVec Ideal S2x8192x256 .f32) (b : Fin 2) (n : Fin 8192) (k : Fin 256) : gT Y (ix3 b n k) = gelu (Y (ix3 b n k)) := by
  unfold gT gelu
  pointwise

theorem o_at (Y : FVec Ideal S2x8192x256 .f32) (a8 : FVec Ideal S256x256 .f32) (a9 : FVec Ideal S256 .f32) (b : Fin 2) (n : Fin 8192) (k : Fin 256) :
    oT Y a8 a9 (ix3 b n k) = Y (ix3 b n k) * Ideal.div 1 (1 + Ideal.exp (-(∑ x, Y (ix3 b n x) * a8 (ix2 x k) + a9 (ix1 k)))) := by
  unfold oT
  pointwise

theorem out_at (R : Real m c) (b : Fin 2) (n : Fin 8192) (k : Fin 256) : out_main_v52 (lp m c 8192) (ix3 b n k) =
    (gated (mix (aU m c) (aA m c) (aA' m c) (aB m c) (aB' m c) (aC m c) (aC' m c) (aD m c) b n) (aG m c) (aH m c) k : EReal) := by
  have hy (k : Fin 256) : yT (lp m c 8192 (Proc.devRef .tc main_arg0)) (lp m c 8192 (Proc.devRef .tc main_arg5)) (lp m c 8192 (Proc.devRef .tc main_arg6))
      (lp m c 8192 (Proc.devRef .tc main_arg7)) (lp m c 8192 (Proc.devRef .tc main_v18_7)) (lp m c 8192 (Proc.devRef .tc main_v18_8)) (ix3 b n k) =
      mix (aU m c) (aA m c) (aA' m c) (aB m c) (aB' m c) (aC m c) (aC' m c) (aD m c) b n k := by
    rw [y_at]
    unfold mix
    simp only [(lp_78 m c R 8192 (Nat.le_refl _) n n.isLt b _ _).1, (lp_78 m c R 8192 (Nat.le_refl _) n n.isLt b _ _).2]
    rw [show lp m c 8192 (Proc.devRef .tc main_arg0) = _ from iter_main_arg0 m c 8192, show lp m c 8192 (Proc.devRef .tc main_arg5) = _ from iter_main_arg5 m c 8192,
      show lp m c 8192 (Proc.devRef .tc main_arg6) = _ from iter_main_arg6 m c 8192, show lp m c 8192 (Proc.devRef .tc main_arg7) = _ from iter_main_arg7 m c 8192]
  rw [out52_eq, o_at]
  unfold gated
  simp only [g_at, hy]
  rw [show lp m c 8192 (Proc.devRef .tc main_arg8) = _ from iter_main_arg8 m c 8192, show lp m c 8192 (Proc.devRef .tc main_arg9) = _ from iter_main_arg9 m c 8192]

end Cert.Proof.S5Ref

end
-- ==== Proof.S5.lean ====
module

public import proofs.«01_k».proof.Defs
public import proofs.«01_k».proof.Proof.S5Host
public import proofs.«01_k».proof.Proof.S5Ref
public import Idealize.ShloMosaic.Lib.Pipeline.ValueKit
public import Idealize.ShloMosaic.Lib.Pointwise

@[expose] public section

set_option maxRecDepth 16384

noncomputable section

/-! The S5 kernel over its grid, and the reference's arrays. -/

namespace Cert.Proof.S5

open Idealize.ShloMosaic Idealize.ShloMosaic.TcCoe Idealize.SL.Sem
open Cert.KernelIdeal Cert.KernelIdeal.Gen Cert.Proof.Scan

variable (m : (ℓ : Loc nD τ sig) → Buf (Elt Ideal) ℓ) (c : Dev nD)

/-! The arguments, as extended reals. -/

abbrev aU (b : Fin 2) (n : Fin 8192) (k : Fin 256) : EReal := m ((c.tc : Thread nD τ).loc main_arg0) (ix3 b n k)
abbrev aA (q : Fin 1024) : EReal := m ((c.tc : Thread nD τ).loc main_arg1) (ix2 0 q)
abbrev aA' (q : Fin 1024) : EReal := m ((c.tc : Thread nD τ).loc main_arg2) (ix2 0 q)
abbrev aB (q : Fin 1024) (x : Fin 16) : EReal := m ((c.tc : Thread nD τ).loc main_arg3) (ix2 q x)
abbrev aB' (q : Fin 1024) (x : Fin 16) : EReal := m ((c.tc : Thread nD τ).loc main_arg4) (ix2 q x)
abbrev aC (g h : Fin 16) (p : Fin 64) : EReal := m ((c.tc : Thread nD τ).loc main_arg5) (ix3 g h p)
abbrev aC' (g h : Fin 16) (p : Fin 64) : EReal := m ((c.tc : Thread nD τ).loc main_arg6) (ix3 g h p)
abbrev aD (k : Fin 256) : EReal := m ((c.tc : Thread nD τ).loc main_arg7) (ix1 k)
abbrev aG (j k : Fin 256) : EReal := m ((c.tc : Thread nD τ).loc main_arg8) (ix2 j k)
abbrev aH (k : Fin 256) : EReal := m ((c.tc : Thread nD τ).loc main_arg9) (ix1 k)

/-- The state of mode `q` after `n` tokens. -/
def H (b : Fin 2) (q : Fin 1024) (n : ℕ) : ℂ := hid (aU m c) (aA m c) (aA' m c) (aB m c) (aB' m c) b q n

/-- The precondition on the device's arguments. -/
abbrev P : Prop := Ok (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg6))

variable {m c}

/-! The tables, as extended reals. -/

abbrev pr (m : (ℓ : Loc nD τ sig) → Buf (Elt Ideal) ℓ) (c : Dev nD) (r : Fin 256) (q : Fin 1024) : EReal := m ((c.tc : Thread nD τ).loc main_arg1) (ix2 r q)
abbrev pi (m : (ℓ : Loc nD τ sig) → Buf (Elt Ideal) ℓ) (c : Dev nD) (r : Fin 256) (q : Fin 1024) : EReal := m ((c.tc : Thread nD τ).loc main_arg2) (ix2 r q)

theorem step (h : P m c) (r : ℕ) (hr : r + 1 < 256) (q : Fin 1024) :
    pr m c ⟨r + 1, hr⟩ q = pr m c ⟨r, by omega⟩ q * aA m c q - pi m c ⟨r, by omega⟩ q * aA' m c q ∧
    pi m c ⟨r + 1, hr⟩ q = pr m c ⟨r, by omega⟩ q * aA' m c q + pi m c ⟨r, by omega⟩ q * aA m c q := by
  have e : (⟨r + 1, hr⟩ : Fin 256) = ⟨1 + r, by omega⟩ := Fin.ext (Nat.add_comm r 1)
  rw [e]
  exact ⟨h.re ⟨r, by omega⟩ q, h.im ⟨r, by omega⟩ q⟩

/-- The decay of mode `q`. -/
abbrev az (m : (ℓ : Loc nD τ sig) → Buf (Elt Ideal) ℓ) (c : Dev nD) (q : Fin 1024) : ℂ := ⟨(aA m c q).toReal, (aA' m c q).toReal⟩

/-- The tables hold the decay's powers. -/
theorem pow_at (h : P m c) (q : Fin 1024) : ∀ (r : ℕ) (hr : r < 256),
    pr m c ⟨r, hr⟩ q = re (az m c q ^ (r + 1)) ∧ pi m c ⟨r, hr⟩ q = im (az m c q ^ (r + 1))
  | 0, hr => by
    rw [pow_one]
    exact ⟨(h.pr _).coe.symm, (h.pi _).coe.symm⟩
  | r + 1, hr => by
    obtain ⟨e, e'⟩ := pow_at h q r (by omega)
    have a : re (az m c q) = aA m c q := (h.pr _).coe
    have a' : im (az m c q) = aA' m c q := (h.pi _).coe
    rw [(step h r hr q).1, (step h r hr q).2, e, e', pow_succ _ (r + 1), mul_re, mul_im, a, a']
    exact ⟨rfl, rfl⟩

/-- One group's part of a product with the block-diagonal input matrix. -/
theorem in_sum (B : FVec Ideal S1024x16 .f32) (u : Fin 256 → EReal) (q : Fin 1024) :
    ∑ x : Fin 256, u x * bdIn B (ix2 x q) = ∑ x : Fin 16, (B (ix2 q x) : EReal) * u ⟨q.val / 64 * 16 + x.val, by omega⟩ := by
  rw [sum_block 16 16 rfl ⟨q.val / 64, by omega⟩]
  · refine Finset.sum_congr rfl fun x _ => ?_
    have e1 : (⟨(q.val / 64 * 16 + x.val) / 16 * 64 + q.val % 64, by omega⟩ : Fin 1024) = q := Fin.ext (by show _ = q.val; simp only []; omega)
    have e2 : (⟨(q.val / 64 * 16 + x.val) % 16, by omega⟩ : Fin 16) = x := Fin.ext (by show _ = x.val; simp only []; omega)
    rw [bdIn_at, eye_at, if_pos (Fin.ext (by simp only []; omega)), mul_one, mul_comm]
    simp only [e1, e2]
  · intro i hi
    rw [bdIn_at, eye_at, if_neg (fun e => hi (by have := congrArg Fin.val e; exact this)), mul_zero, mul_zero]

theorem out_sum (C : FVec Ideal S16x16x64 .f32) (x : Fin 1024 → EReal) (k : Fin 256) :
    ∑ j : Fin 1024, x j * bdOut C (ix2 j k) = ∑ p : Fin 64, (C (ix3 ⟨k.val / 16, by omega⟩ ⟨k.val % 16, by omega⟩ p) : EReal) * x ⟨k.val / 16 * 64 + p.val, by omega⟩ := by
  rw [sum_block 16 64 rfl ⟨k.val / 16, by omega⟩]
  · refine Finset.sum_congr rfl fun p _ => ?_
    have e1 : (⟨(k.val / 16 * 64 + p.val) / 64, by omega⟩ : Fin 16) = ⟨k.val / 16, by omega⟩ := Fin.ext (by simp only []; omega)
    have e2 : (⟨(k.val / 16 * 64 + p.val) % 64, by omega⟩ : Fin 64) = p := Fin.ext (by show _ = p.val; simp only []; omega)
    rw [bdOut_at, eye_at, if_pos e1, mul_one, mul_comm]
    simp only [e1, e2]
  · intro i hi
    rw [bdOut_at, eye_at, if_neg (fun e => hi (by have := congrArg Fin.val e; exact this)), mul_zero, mul_zero]

theorem out_sum' (C : FVec Ideal S16x16x64 .f32) (x : Fin 1024 → EReal) (hC : ∀ i, IsR (C i)) (hx : ∀ j, IsR (x j)) (k : Fin 256) :
    ∑ j : Fin 1024, x j * (Host.negf (bdOut C) (ix2 j k) : EReal) = -∑ p : Fin 64, (C (ix3 ⟨k.val / 16, by omega⟩ ⟨k.val % 16, by omega⟩ p) : EReal) * x ⟨k.val / 16 * 64 + p.val, by omega⟩ := by
  have e : ∀ j : Fin 1024, x j * (Host.negf (bdOut C) (ix2 j k) : EReal) = -(x j * bdOut C (ix2 j k)) := fun j => mul_neg _ _
  rw [Finset.sum_congr rfl fun j _ => e j, sum_neg, out_sum]
  intro j
  refine (hx j).mul ?_
  rw [bdOut_at, eye_at]
  refine (hC _).mul ?_
  split
  · exact ⟨1, rfl⟩
  · exact IsR.zero

variable (t : Fin cfg0.N)

abbrev bat : Fin 2 := ⟨t.val / 32, by have := lt t; omega⟩

theorem wr_at (i : Fin 256) (q : Fin 1024) : iblk m c 4 t (ix2 i ⟨q.val, by omega⟩) = bdIn (m ((c.tc : Thread nD τ).loc main_arg3)) (ix2 i q) := by
  rw [wb_at, wb_eq]
  exact cat_in _ _ i q
theorem wi_at (i : Fin 256) (q : Fin 1024) : iblk m c 4 t (ix2 i ⟨1024 + q.val, by omega⟩) = bdIn (m ((c.tc : Thread nD τ).loc main_arg4)) (ix2 i q) := by
  rw [wb_at, wb_eq]
  exact cat_in' _ _ i q
theorem cr_at (q : Fin 1024) (k : Fin 256) : View.ld (iblk m c 5 t) (Rect.unit (s := S2048x256) ![0, 0] S1024x256.size inb_S2048x256_S1024x256_0_0) (ix2 q k) =
    bdOut (m ((c.tc : Thread nD τ).loc main_arg5)) (ix2 q k) := by
  refine (ld_c _ q k).trans ?_
  rw [wc_at, wc_eq]
  exact cat_out _ _ q k
theorem ci_at (q : Fin 1024) (k : Fin 256) : View.ld (iblk m c 5 t) (Rect.unit (s := S2048x256) ![1024, 0] S1024x256.size inb_S2048x256_S1024x256_1024_0) (ix2 q k) =
    Host.negf (bdOut (m ((c.tc : Thread nD τ).loc main_arg6))) (ix2 q k) := by
  refine (ld_c' _ q k).trans ?_
  rw [wc_at, wc_eq]
  exact cat_out' _ _ q k

theorem in_at (r : Fin 256) (q : Fin 1024) :
    k0_pay6 (iblk m c 0 t) (iblk m c 4 t) (ix2 r q) = bu (aU m c) (aB m c) (bat t) q (256 * (t.val % 32) + r.val) ∧
    k0_pay7 (iblk m c 0 t) (iblk m c 4 t) (ix2 r q) = bu (aU m c) (aB' m c) (bat t) q (256 * (t.val % 32) + r.val) := by
  have hn : 256 * (t.val % 32) + r.val < 8192 := by omega
  rw [pay6_at, pay7_at, bu, bu, dif_pos hn, dif_pos hn]
  constructor
  · rw [Finset.sum_congr rfl fun x _ => congrArg₂ (fun a b : EReal => a * b) (u_at m c t r x) (wr_at t x q)]
    exact in_sum _ (fun k => aU m c (bat t) ⟨_, hn⟩ k) q
  · rw [Finset.sum_congr rfl fun x _ => congrArg₂ (fun a b : EReal => a * b) (u_at m c t r x) (wi_at t x q)]
    exact in_sum _ (fun k => aU m c (bat t) ⟨_, hn⟩ k) q

/-- The states of the rows of a point, given those the point starts from. -/
theorem rows_of (h : P m c) (q : Fin 1024) (hs : Is (H m c (bat t) q (256 * (t.val % 32))) q (carry m c t).1 (carry m c t).2) (r : Fin 256) :
    tRe m c t (ix2 r q) = re (H m c (bat t) q (256 * (t.val % 32) + (r.val + 1))) ∧
    tIm m c t (ix2 r q) = im (H m c (bat t) q (256 * (t.val % 32) + (r.val + 1))) := by
  refine chunk (256 * (t.val % 32)) (fun r => ?_) (fun r => ?_) hs r
  · rw [W_one, (in_at t r q).1, (in_at t r q).2]
    exact ⟨(bu_real _ _ (fun _ _ _ => h.u _) (fun _ _ => h.b _) _ _ _).coe.symm, (bu_real _ _ (fun _ _ _ => h.u _) (fun _ _ => h.b' _) _ _ _).coe.symm⟩
  · rw [pr_at, pi_at]
    exact pow_at h q r.val r.isLt

theorem carry_0 (h0 : t.val % 32 = 0) (q : Fin 1024) : Is (H m c (bat t) q (256 * (t.val % 32))) q (carry m c t).1 (carry m c t).2 := by
  rw [h0]
  unfold carry
  rw [if_pos h0]
  refine ⟨?_, ?_⟩
  · exact (pay2_at _ q).trans ((ld_h _ q).trans (h0_at m c t _))
  · exact (pay3_at _ q).trans ((ld_h' _ q).trans (h0_at m c t _))

theorem rows_all (h : P m c) (q : Fin 1024) : ∀ (n : ℕ) (hn : n < cfg0.N) (r : Fin 256),
    tRe m c ⟨n, hn⟩ (ix2 r q) = re (H m c (bat ⟨n, hn⟩) q (256 * (n % 32) + (r.val + 1))) ∧
    tIm m c ⟨n, hn⟩ (ix2 r q) = im (H m c (bat ⟨n, hn⟩) q (256 * (n % 32) + (r.val + 1)))
  | 0, hn, r => rows_of ⟨0, hn⟩ h q (carry_0 _ rfl q) r
  | n + 1, hn, r => by
    by_cases h0 : (n + 1) % 32 = 0
    · exact rows_of ⟨n + 1, hn⟩ h q (carry_0 ⟨n + 1, hn⟩ h0 q) r
    · refine rows_of ⟨n + 1, hn⟩ h q ?_ r
      have e := rows_all h q n (by omega) 255
      have e1 : bat ⟨n + 1, hn⟩ = bat ⟨n, by omega⟩ := Fin.ext (by show (n + 1) / 32 = n / 32; omega)
      have e2 : 256 * ((n + 1) % 32) = 256 * (n % 32) + (255 + 1) := by omega
      show Is (H m c (bat ⟨n + 1, hn⟩) q (256 * ((n + 1) % 32))) q _ _
      rw [e1, e2]
      unfold carry
      rw [if_neg h0]
      exact ⟨(left_re m c ⟨n, by omega⟩ q).trans e.1, (left_im m c ⟨n, by omega⟩ q).trans e.2⟩

/-- The kernel's first output at an index. -/
abbrev yAt (m : (ℓ : Loc nD τ sig) → Buf (Elt Ideal) ℓ) (c : Dev nD) (b : Fin 2) (n : Fin 8192) (k : Fin 256) : EReal :=
  gated (mix (aU m c) (aA m c) (aA' m c) (aB m c) (aB' m c) (aC m c) (aC' m c) (aD m c) b n) (aG m c) (aH m c) k

theorem mix_at (h : P m c) (r k : Fin 256) :
    k0_pay53 (k0_pay4 (iblk m c 0 t)) (tRe m c t) (tIm m c t)
      (View.ld (iblk m c 5 t) (Rect.unit (s := S2048x256) ![0, 0] S1024x256.size inb_S2048x256_S1024x256_0_0))
      (View.ld (iblk m c 5 t) (Rect.unit (s := S2048x256) ![1024, 0] S1024x256.size inb_S2048x256_S1024x256_1024_0)) (iblk m c 6 t) (ix2 r k) =
    mix (aU m c) (aA m c) (aA' m c) (aB m c) (aB' m c) (aC m c) (aC' m c) (aD m c) (bat t) ⟨256 * (t.val % 32) + r.val, by omega⟩ k := by
  rw [pay53_at, pay4_at, u_at, d_at,
    Finset.sum_congr rfl fun q _ => congrArg₂ (fun a b : EReal => a * b) (rows_all h q t.val t.isLt r).1 (cr_at t q k),
    Finset.sum_congr rfl fun q _ => congrArg₂ (fun a b : EReal => a * b) (rows_all h q t.val t.isLt r).2 (ci_at t q k),
    out_sum, out_sum' _ _ h.c' (fun j => ⟨_, rfl⟩)]
  unfold mix
  rw [sub_eq_add_neg]
  rfl

theorem y_at (h : P m c) (r k : Fin 256) : yBlk m c t (tRe m c t) (tIm m c t) (ix3 0 r k) =
    yAt m c (bat t) ⟨256 * (t.val % 32) + r.val, by omega⟩ k := by
  unfold yBlk
  rw [pay1_at]
  simp only [mix_at t h, gw_at, gb_at]

variable (m c)

/-- The first result as a function of the arguments. -/
abbrev whole : FVec Ideal S2x8192x256 .f32 := fun i => yAt m c (i 0) (i 1) (i 2)

/-- The states after the last token, real parts first. -/
def lastOf (b : Fin 2) (j : Fin 2048) : EReal :=
  if h : j.val < 1024 then re (H m c b ⟨j.val, h⟩ 8192) else im (H m c b ⟨j.val - 1024, by omega⟩ 8192)

/-- The second result. -/
abbrev lastRow : FVec Ideal S2x1x2048 .f32 := fun i => lastOf m c (i 0) (i 2)

theorem y_idx (r k : Fin 256) : (win0_9.blk t).view.emb (ix3 0 r k) = ix3 (bat t) (⟨256 * (t.val % 32) + r.val, by omega⟩ : Fin 8192) k := by
  have := lt t
  blk_ext [idx t]

theorem h_idx (j : Fin 2048) : (win0_10.blk t).view.emb (ix3 0 0 j) = ix3 (bat t) 0 j := by
  have := lt t
  blk_ext [idx t]

theorem flush10 : ∀ t : Fin grid0.N, win0_10.flush t = true → t.val % 32 = 31 := by decide +kernel

variable {m c}

theorem final9 (h : P m c) : (dats m 0 c).arrAt 9 cfg0.N = whole m c := by
  refine (dats m 0 c).arrAt_eq_of_covers 9 _ (by decide +kernel) fun t hf y => ?_
  blk_simp
  rw [after0_9]
  idx_vars y
  obtain rfl : y0 = 0 := Subsingleton.elim _ _
  exact (left_y m c t _).trans ((y_at t h y1 y2).trans (congrArg (whole m c) (y_idx t y1 y2)).symm)

theorem last_at (h : P m c) (ht : t.val % 32 = 31) (j : Fin 2048) : (outsAt0 m c t.val t.isLt).2.1 (ix3 0 0 j) = lastOf m c (bat t) j := by
  have e8 : 256 * (t.val % 32) + (255 + 1) = 8192 := by omega
  by_cases hj : j.val < 1024
  · have e := rows_all h ⟨j.val, hj⟩ t.val t.isLt 255
    refine ((left_h m c t ⟨j.val, hj⟩).1.trans e.1).trans ?_
    show re (H m c (bat t) _ (256 * (t.val % 32) + (255 + 1))) = _
    rw [e8]
    unfold lastOf
    rw [dif_pos hj]
  · have e := rows_all h ⟨j.val - 1024, by omega⟩ t.val t.isLt 255
    have ej : j = ⟨1024 + (j.val - 1024), by omega⟩ := Fin.ext (by simp only []; omega)
    have e' := (left_h m c t ⟨j.val - 1024, by omega⟩).2.trans e.2
    rw [← ej] at e'
    refine e'.trans ?_
    show im (H m c (bat t) _ (256 * (t.val % 32) + (255 + 1))) = _
    rw [e8]
    unfold lastOf
    rw [dif_neg hj]

theorem final10 (h : P m c) : (dats m 0 c).arrAt 10 cfg0.N = lastRow m c := by
  refine (dats m 0 c).arrAt_eq_of_covers 10 _ (by decide +kernel) fun t hf y => ?_
  blk_simp
  rw [after0_10]
  idx_vars y
  obtain rfl : y0 = 0 := Subsingleton.elim _ _
  obtain rfl : y1 = 0 := Subsingleton.elim _ _
  exact (last_at t h (flush10 t hf) y2).trans (congrArg (lastRow m c) (h_idx t y2)).symm

variable (m' : (ℓ : Loc Cert.ReferenceIdeal.nD Cert.ReferenceIdeal.τ Cert.ReferenceIdeal.sig) → Buf (Elt Ideal) ℓ)

/-- Where the arguments agree, the reference's results are the kernel's. -/
theorem results (h : P m c) (hagree :
    m' ((c.tc : Thread Cert.ReferenceIdeal.nD Cert.ReferenceIdeal.τ).loc Cert.ReferenceIdeal.main_arg0) = m ((c.tc : Thread nD τ).loc main_arg0) ∧
    m' ((c.tc : Thread Cert.ReferenceIdeal.nD Cert.ReferenceIdeal.τ).loc Cert.ReferenceIdeal.main_arg1) = m ((c.tc : Thread nD τ).loc main_arg1) ∧
    m' ((c.tc : Thread Cert.ReferenceIdeal.nD Cert.ReferenceIdeal.τ).loc Cert.ReferenceIdeal.main_arg2) = m ((c.tc : Thread nD τ).loc main_arg2) ∧
    m' ((c.tc : Thread Cert.ReferenceIdeal.nD Cert.ReferenceIdeal.τ).loc Cert.ReferenceIdeal.main_arg3) = m ((c.tc : Thread nD τ).loc main_arg3) ∧
    m' ((c.tc : Thread Cert.ReferenceIdeal.nD Cert.ReferenceIdeal.τ).loc Cert.ReferenceIdeal.main_arg4) = m ((c.tc : Thread nD τ).loc main_arg4) ∧
    m' ((c.tc : Thread Cert.ReferenceIdeal.nD Cert.ReferenceIdeal.τ).loc Cert.ReferenceIdeal.main_arg5) = m ((c.tc : Thread nD τ).loc main_arg5) ∧
    m' ((c.tc : Thread Cert.ReferenceIdeal.nD Cert.ReferenceIdeal.τ).loc Cert.ReferenceIdeal.main_arg6) = m ((c.tc : Thread nD τ).loc main_arg6) ∧
    m' ((c.tc : Thread Cert.ReferenceIdeal.nD Cert.ReferenceIdeal.τ).loc Cert.ReferenceIdeal.main_arg7) = m ((c.tc : Thread nD τ).loc main_arg7) ∧
    m' ((c.tc : Thread Cert.ReferenceIdeal.nD Cert.ReferenceIdeal.τ).loc Cert.ReferenceIdeal.main_arg8) = m ((c.tc : Thread nD τ).loc main_arg8) ∧
    m' ((c.tc : Thread Cert.ReferenceIdeal.nD Cert.ReferenceIdeal.τ).loc Cert.ReferenceIdeal.main_arg9) = m ((c.tc : Thread nD τ).loc main_arg9)) :
    Cert.ReferenceIdeal.Value.out_main_v52 (S5Ref.lp m' c 8192) = whole m c ∧ Cert.ReferenceIdeal.Value.out_main_v56 (S5Ref.lp m' c 8192) = lastRow m c := by
  obtain ⟨e0, e1, e2, e3, e4, e5, e6, e7, e8, e9⟩ := hagree
  have eU : S5Ref.aU m' c = aU m c := funext fun b => funext fun n => funext fun k => congrFun e0 _
  have eA : S5Ref.aA m' c = aA m c := funext fun q => congrFun e1 _
  have eA' : S5Ref.aA' m' c = aA' m c := funext fun q => congrFun e2 _
  have eB : S5Ref.aB m' c = aB m c := funext fun q => funext fun x => congrFun e3 _
  have eB' : S5Ref.aB' m' c = aB' m c := funext fun q => funext fun x => congrFun e4 _
  have eC : S5Ref.aC m' c = aC m c := funext fun g => funext fun h => funext fun p => congrFun e5 _
  have eC' : S5Ref.aC' m' c = aC' m c := funext fun g => funext fun h => funext fun p => congrFun e6 _
  have eD : S5Ref.aD m' c = aD m c := funext fun k => congrFun e7 _
  have eG : S5Ref.aG m' c = aG m c := funext fun j => funext fun k => congrFun e8 _
  have eH : S5Ref.aH m' c = aH m c := funext fun k => congrFun e9 _
  have R : S5Ref.Real m' c :=
    ⟨fun b n k => by rw [eU]; exact h.u _, fun q => by rw [eA]; exact h.pr _, fun q => by rw [eA']; exact h.pi _,
      fun q x => by rw [eB]; exact h.b _, fun q x => by rw [eB']; exact h.b' _⟩
  have eS : ∀ b q n, S5Ref.H m' c b q n = H m c b q n := fun b q n => by
    unfold S5Ref.H H
    rw [eU, eA, eA', eB, eB']
  constructor
  · funext i
    idx_vars i
    refine (S5Ref.out_at m' c R i0 i1 i2).trans ?_
    rw [eU, eA, eA', eB, eB', eC, eC', eD, eG, eH]
    rfl
  · funext i
    idx_vars i
    obtain rfl : i1 = 0 := Subsingleton.elim _ _
    show _ = lastOf m c i0 i2
    unfold lastOf
    by_cases hj : i2.val < 1024
    · rw [dif_pos hj, ← eS]
      exact (S5Ref.last_at m' c R i0 ⟨i2.val, hj⟩).1
    · rw [dif_neg hj, ← eS]
      have e := (S5Ref.last_at m' c R i0 ⟨i2.val - 1024, by omega⟩).2
      have ej : (⟨1024 + (i2.val - 1024), by omega⟩ : Fin 2048) = i2 := Fin.ext (by simp only []; omega)
      rw [ej] at e
      exact e

theorem algebraic : Cert.algebraic_KernelIdeal_ReferenceIdeal_pre_powers_and_finite := by
  pair_intro
  · run_from Value.run_blocks m g
  · refine (θ_run _ _ _).mono (fun r hr c => ?_) (Cert.ReferenceIdeal.Value.run m' g')
    have h : P m c := ok _ _ _ _ _ _ _ _ _ _ (hpre c)
    obtain ⟨e, e'⟩ := results m' h (hagree c)
    exact ⟨((hr c).1.trans e).trans (final9 h).symm, ((hr c).2.1.trans e').trans (final10 h).symm, (hr c).2.2⟩

end Cert.Proof.S5

end
-- ==== Proof.InprojRef.lean ====
module

public import proofs.«01_k».proof.Proof.Gen.Reference5Ideal.Run
public import proofs.«01_k».proof.Proof.Rows

@[expose] public section

set_option maxRecDepth 16384

noncomputable section

/-! The input projection and the rotary embedding of the reference, one token at a time. -/

namespace Cert.Proof.InprojRef

open Idealize.ShloMosaic Idealize.ShloMosaic.TcCoe Idealize.SL.Sem
open Cert.Reference5Ideal Cert.Reference5Ideal.Gen Cert.Proof.Rows

/-- The normed and modulated tokens. -/
def preT (A0 : FVec Ideal S2x8192x1024 .f32) (A1 : FVec Ideal S2x3x3x1024 .f32) (A2 : FVec Ideal S3x1024 .f32) :
    FVec Ideal S2x8192x1024 .f32 :=
  addf (mulf (mulf (mulf A0 (broadcastInDim S2x8192x1024 ![0, 1, 2] bcast_S2x8192x1_S2x8192x1024_0_1_2 (Host.rsqrt
    (addf (Host.divf (broadcastInDim S2x8192x1 ![0, 1] bcast_S2x8192_S2x8192x1_0_1 (Host.reduceAdd (mulf A0 A0)
    (constant S_ .f32 0x00000000#32) reducesTo_S2x8192x1024_S2x8192_d2 h_S_)) (broadcastInDim S2x8192x1 ![]
    bcast_S_S2x8192x1 (constant S_ .f32 0x44800000#32))) (broadcastInDim S2x8192x1 ![] bcast_S_S2x8192x1 (constant S_
    .f32 0x358637BD#32)))))) (broadcastInDim S2x8192x1024 ![0, 1, 2] bcast_S1x1x1024_S2x8192x1024_0_1_2
    (broadcastInDim S1x1x1024 ![2] bcast_S1024_S1x1x1024_2 (shapeCast _ (extractStridedSlice S1x1024 ![1, 0] A2
    slices_S3x1024_S1x1024_1_0) shapeCasts_S1x1024_S1024)))) (broadcastInDim S2x8192x1024 ![0, 1, 2]
    bcast_S2x1x1024_S2x8192x1024_0_1_2 (addf (broadcastInDim S2x1x1024 ![] bcast_S_S2x1x1024 (constant S_ .f32
    0x3F800000#32)) (broadcastInDim S2x1x1024 ![0, 2] bcast_S2x1024_S2x1x1024_0_2 (shapeCast _ (extractStridedSlice
    S2x1x1x1024 ![0, 1, 1, 0] A1 slices_S2x3x3x1024_S2x1x1x1024_0_1_1_0) shapeCasts_S2x1x1x1024_S2x1024)))))
    (broadcastInDim S2x8192x1024 ![0, 1, 2] bcast_S2x1x1024_S2x8192x1024_0_1_2 (broadcastInDim S2x1x1024 ![0, 2]
    bcast_S2x1024_S2x1x1024_0_2 (shapeCast _ (extractStridedSlice S2x1x1x1024 ![0, 1, 0, 0] A1
    slices_S2x3x3x1024_S2x1x1x1024_0_1_0_0) shapeCasts_S2x1x1x1024_S2x1024)))

/-- The projected rows, every mixer's columns side by side. -/
def zT (P : FVec Ideal S2x8192x1024 .f32) (A3 : FVec Ideal S1024x3012 .f32) : FVec Ideal S2x8192x3012 .f32 :=
  Host.dotGeneral dot_S2x8192x1024_S1024x3012_S2x8192x3012_2_0_01_1_n_n none P A3

/-- The rotary angles, position by frequency. -/
def angT : FVec Ideal S8192x32 .f32 :=
  mulf (broadcastInDim S8192x32 ![0, 1] bcast_S8192x1_S8192x32_0_1 (broadcastInDim S8192x1 ![0] bcast_S8192_S8192x1_0
    (sitofp .f32 (iotaInDim S8192 32 0)))) (broadcastInDim S8192x32 ![0, 1] bcast_S1x32_S8192x32_0_1 (broadcastInDim
    S1x32 ![1] bcast_S32_S1x32_1 (Host.powf (broadcastInDim S32 ![] bcast_S_S32 (constant S_ .f32 0x461C4000#32))
    (Host.divf (Host.negf (sitofp .f32 (iotaInDim S32 32 0))) (broadcastInDim S32 ![] bcast_S_S32 (constant S_ .f32
    0x42000000#32))))))

/-- The rotation of the heads by their positions' angles. -/
def rotT (H : FVec Ideal S2x8192x8x64 .f32) (A : FVec Ideal S8192x32 .f32) : FVec Ideal S2x8192x8x64 .f32 :=
  concatenate S2x8192x8x64 3 [⟨S2x8192x8x32, (subf (mulf (extractStridedSlice S2x8192x8x32 ![0, 0, 0, 0] H
    slices_S2x8192x8x64_S2x8192x8x32_0_0_0_0) (broadcastInDim S2x8192x8x32 ![0, 1, 2, 3]
    bcast_S1x8192x1x32_S2x8192x8x32_0_1_2_3 (shapeCast _ (Host.cos A) shapeCasts_S8192x32_S1x8192x1x32))) (mulf
    (extractStridedSlice S2x8192x8x32 ![0, 0, 0, 32] H slices_S2x8192x8x64_S2x8192x8x32_0_0_0_32) (broadcastInDim
    S2x8192x8x32 ![0, 1, 2, 3] bcast_S1x8192x1x32_S2x8192x8x32_0_1_2_3 (shapeCast _ (Host.sin A)
    shapeCasts_S8192x32_S1x8192x1x32))))⟩, ⟨S2x8192x8x32, (addf (mulf (extractStridedSlice S2x8192x8x32 ![0, 0, 0, 0] H
    slices_S2x8192x8x64_S2x8192x8x32_0_0_0_0) (broadcastInDim S2x8192x8x32 ![0, 1, 2, 3]
    bcast_S1x8192x1x32_S2x8192x8x32_0_1_2_3 (shapeCast _ (Host.sin A) shapeCasts_S8192x32_S1x8192x1x32))) (mulf
    (extractStridedSlice S2x8192x8x32 ![0, 0, 0, 32] H slices_S2x8192x8x64_S2x8192x8x32_0_0_0_32) (broadcastInDim
    S2x8192x8x32 ![0, 1, 2, 3] bcast_S1x8192x1x32_S2x8192x8x32_0_1_2_3 (shapeCast _ (Host.cos A)
    shapeCasts_S8192x32_S1x8192x1x32))))⟩] concatenates_S2x8192x8x32_S2x8192x8x32_S2x8192x8x64_d3

/-- The rotation of the index keys. -/
def rotKT (H : FVec Ideal S2x8192x64 .f32) (A : FVec Ideal S8192x32 .f32) : FVec Ideal S2x8192x64 .f32 :=
  concatenate S2x8192x64 2 [⟨S2x8192x32, (subf (mulf (extractStridedSlice S2x8192x32 ![0, 0, 0] H
    slices_S2x8192x64_S2x8192x32_0_0_0) (broadcastInDim S2x8192x32 ![0, 1, 2] bcast_S1x8192x32_S2x8192x32_0_1_2
    (shapeCast _ (Host.cos A) shapeCasts_S8192x32_S1x8192x32))) (mulf (extractStridedSlice S2x8192x32 ![0, 0, 32] H
    slices_S2x8192x64_S2x8192x32_0_0_32) (broadcastInDim S2x8192x32 ![0, 1, 2] bcast_S1x8192x32_S2x8192x32_0_1_2
    (shapeCast _ (Host.sin A) shapeCasts_S8192x32_S1x8192x32))))⟩, ⟨S2x8192x32, (addf (mulf (extractStridedSlice
    S2x8192x32 ![0, 0, 0] H slices_S2x8192x64_S2x8192x32_0_0_0) (broadcastInDim S2x8192x32 ![0, 1, 2]
    bcast_S1x8192x32_S2x8192x32_0_1_2 (shapeCast _ (Host.sin A) shapeCasts_S8192x32_S1x8192x32))) (mulf
    (extractStridedSlice S2x8192x32 ![0, 0, 32] H slices_S2x8192x64_S2x8192x32_0_0_32) (broadcastInDim S2x8192x32
    ![0, 1, 2] bcast_S1x8192x32_S2x8192x32_0_1_2 (shapeCast _ (Host.cos A) shapeCasts_S8192x32_S1x8192x32))))⟩]
    concatenates_S2x8192x32_S2x8192x32_S2x8192x64_d2

/-- The queries' heads. -/
def qhT (Z : FVec Ideal S2x8192x3012 .f32) : FVec Ideal S2x8192x8x64 .f32 :=
  shapeCast _ (extractStridedSlice S2x8192x512 ![0, 0, 256] Z slices_S2x8192x3012_S2x8192x512_0_0_256)
    shapeCasts_S2x8192x512_S2x8192x8x64

/-- The keys' heads. -/
def khT (Z : FVec Ideal S2x8192x3012 .f32) : FVec Ideal S2x8192x8x64 .f32 :=
  shapeCast _ (extractStridedSlice S2x8192x512 ![0, 0, 768] Z slices_S2x8192x3012_S2x8192x512_0_0_768)
    shapeCasts_S2x8192x512_S2x8192x8x64

/-- The first mixer's input. -/
def uT (Z : FVec Ideal S2x8192x3012 .f32) : FVec Ideal S16384x256 .f32 :=
  shapeCast _ (extractStridedSlice S2x8192x256 ![0, 0, 0] Z slices_S2x8192x3012_S2x8192x256_0_0_0)
    shapeCasts_S2x8192x256_S16384x256

/-- The queries, rotated and scaled. -/
def qT (Z : FVec Ideal S2x8192x3012 .f32) (A : FVec Ideal S8192x32 .f32) : FVec Ideal S16384x512 .bf16 :=
  truncf .bf16 (shapeCast S16384x512 (mulf (rotT (qhT Z) A) (broadcastInDim S2x8192x8x64 ![] bcast_S_S2x8192x8x64
    (constant S_ .f32 0x3E38AA3B#32))) shapeCasts_S2x8192x8x64_S16384x512) bitsLt_bf16_f32

/-- The keys, rotated. -/
def kbT (Z : FVec Ideal S2x8192x3012 .f32) (A : FVec Ideal S8192x32 .f32) : FVec Ideal S16384x512 .bf16 :=
  truncf .bf16 (shapeCast S16384x512 (rotT (khT Z) A) shapeCasts_S2x8192x8x64_S16384x512) bitsLt_bf16_f32

/-- The third mixer's columns. -/
def rwT (Z : FVec Ideal S2x8192x3012 .f32) : FVec Ideal S16384x896 .f32 :=
  shapeCast _ (extractStridedSlice S2x8192x896 ![0, 0, 2116] Z slices_S2x8192x3012_S2x8192x896_0_0_2116)
    shapeCasts_S2x8192x896_S16384x896

/-- The values, lanes first. -/
def vtT (Z : FVec Ideal S2x8192x3012 .f32) : FVec Ideal S2x512x8192 .f32 :=
  transpose S2x512x8192 [0, 2, 1] (extractStridedSlice S2x8192x512 ![0, 0, 1280] Z
    slices_S2x8192x3012_S2x8192x512_0_0_1280) transposes_S2x8192x512_S2x512x8192_0_2_1

/-- The keys, lanes first. -/
def ktT (Z : FVec Ideal S2x8192x3012 .f32) (A : FVec Ideal S8192x32 .f32) : FVec Ideal S2x512x8192 .f32 :=
  transpose S2x512x8192 [0, 2, 1] (shapeCast S2x8192x512 (rotT (khT Z) A) shapeCasts_S2x8192x8x64_S2x8192x512)
    transposes_S2x8192x512_S2x512x8192_0_2_1

/-- The index keys and the index weights, lanes first, over 60 lanes of zeros. -/
def kiwT (Z : FVec Ideal S2x8192x3012 .f32) (A : FVec Ideal S8192x32 .f32) : FVec Ideal S2x128x8192 .f32 :=
  transpose S2x128x8192 [0, 2, 1] (concatenate S2x8192x128 2 [⟨S2x8192x64, rotKT (extractStridedSlice S2x8192x64
    ![0, 0, 2048] Z slices_S2x8192x3012_S2x8192x64_0_0_2048) A⟩, ⟨S2x8192x4, extractStridedSlice S2x8192x4 ![0, 0, 2112] Z
    slices_S2x8192x3012_S2x8192x4_0_0_2112⟩, ⟨S2x8192x60, broadcastInDim S2x8192x60 ![] bcast_S_S2x8192x60 (constant S_
    .f32 0x00000000#32)⟩] concatenates_S2x8192x64_S2x8192x4_S2x8192x60_S2x8192x128_d2)
    transposes_S2x8192x128_S2x128x8192_0_2_1

/-- One lane after the rotation, from the lane, the lane it is paired with, and the angle. -/
def turn (a b th : EReal) (lo : Prop) [Decidable lo] : EReal :=
  if lo then a * Ideal.cos th - b * Ideal.sin th else b * Ideal.sin th + a * Ideal.cos th

variable (A0 : FVec Ideal S2x8192x1024 .f32) (A1 : FVec Ideal S2x3x3x1024 .f32) (A2 : FVec Ideal S3x1024 .f32)
  (A3 : FVec Ideal S1024x3012 .f32) (Z : FVec Ideal S2x8192x3012 .f32) (A : FVec Ideal S8192x32 .f32)

theorem pre_at (b : Fin 2) (s : Fin 8192) (k : Fin 1024) : preT A0 A1 A2 (ix3 b s k) =
    pre (fun k => A0 (ix3 b s k)) (fun k => A2 (ix2 1 k)) (fun k => A1 (ix4 b 1 1 k)) (fun k => A1 (ix4 b 1 0 k)) k := by
  unfold preT pre rms
  pointwise

theorem z_at (P : FVec Ideal S2x8192x1024 .f32) (b : Fin 2) (s : Fin 8192) (k : Fin 3012) :
    zT P A3 (ix3 b s k) = ∑ i, P (ix3 b s i) * A3 (ix2 i k) := by
  unfold zT
  pointwise

theorem rot_at (H : FVec Ideal S2x8192x8x64 .f32) (b : Fin 2) (s : Fin 8192) (h : Fin 8) (l : Fin 64) :
    rotT H A (ix4 b s h l) = turn (H (ix4 b s h l))
      (H (ix4 b s h ⟨if l.val < 32 then l.val + 32 else l.val - 32, by split <;> omega⟩))
      (A (ix2 s ⟨l.val % 32, by omega⟩)) (l.val < 32) := by
  unfold rotT turn
  pointwise
  have e : l.val % 32 = if l.val < 32 then l.val else l.val - 32 := by split <;> omega
  have e' : ¬ l.val < 32 → 32 + (l.val - 32) = l.val := by omega
  simp only [e]
  split
  · simp only [Nat.add_comm]
  · rename_i hl
    simp only [e' hl]

theorem rotK_at (H : FVec Ideal S2x8192x64 .f32) (b : Fin 2) (s : Fin 8192) (l : Fin 64) :
    rotKT H A (ix3 b s l) = turn (H (ix3 b s l))
      (H (ix3 b s ⟨if l.val < 32 then l.val + 32 else l.val - 32, by split <;> omega⟩))
      (A (ix2 s ⟨l.val % 32, by omega⟩)) (l.val < 32) := by
  unfold rotKT turn
  pointwise
  have e : l.val % 32 = if l.val < 32 then l.val else l.val - 32 := by split <;> omega
  have e' : ¬ l.val < 32 → 32 + (l.val - 32) = l.val := by omega
  simp only [e]
  split
  · simp only [Nat.add_comm]
  · rename_i hl
    simp only [e' hl]

theorem u_at (n : Fin 16384) (k : Fin 256) : uT Z (ix2 n k) =
    Z (ix3 ⟨n.val / 8192, by omega⟩ ⟨n.val % 8192, by omega⟩ ⟨k.val, by omega⟩) := by
  unfold uT
  pointwise

theorem rw_at (n : Fin 16384) (k : Fin 896) : rwT Z (ix2 n k) =
    Z (ix3 ⟨n.val / 8192, by omega⟩ ⟨n.val % 8192, by omega⟩ ⟨2116 + k.val, by omega⟩) := by
  unfold rwT
  pointwise

theorem vt_at (b : Fin 2) (k : Fin 512) (s : Fin 8192) : vtT Z (ix3 b k s) = Z (ix3 b s ⟨1280 + k.val, by omega⟩) := by
  unfold vtT
  pointwise

theorem qh_at (b : Fin 2) (s : Fin 8192) (h : Fin 8) (l : Fin 64) : qhT Z (ix4 b s h l) =
    Z (ix3 b s ⟨256 + (h.val * 64 + l.val), by omega⟩) := by
  unfold qhT
  pointwise

theorem kh_at (b : Fin 2) (s : Fin 8192) (h : Fin 8) (l : Fin 64) : khT Z (ix4 b s h l) =
    Z (ix3 b s ⟨768 + (h.val * 64 + l.val), by omega⟩) := by
  unfold khT
  pointwise

theorem q_at (n : Fin 16384) (k : Fin 512) : qT Z A (ix2 n k) =
    rotT (qhT Z) A (ix4 ⟨n.val / 8192, by omega⟩ ⟨n.val % 8192, by omega⟩ ⟨k.val / 64, by omega⟩ ⟨k.val % 64, by omega⟩) *
      Ideal.ofBits FTy.f32 0x3E38AA3B#32 := by
  unfold qT
  pointwise

theorem kb_at (n : Fin 16384) (k : Fin 512) : kbT Z A (ix2 n k) =
    rotT (khT Z) A (ix4 ⟨n.val / 8192, by omega⟩ ⟨n.val % 8192, by omega⟩ ⟨k.val / 64, by omega⟩ ⟨k.val % 64, by omega⟩) := by
  unfold kbT
  pointwise

theorem flat_at (H : FVec Ideal S2x8192x8x64 .f32) (b : Fin 2) (s : Fin 8192) (k : Fin 512) :
    shapeCast S2x8192x512 H shapeCasts_S2x8192x8x64_S2x8192x512 (ix3 b s k) =
      H (ix4 b s ⟨k.val / 64, by omega⟩ ⟨k.val % 64, by omega⟩) := by
  pointwise

theorem lanes_at (H : FVec Ideal S2x8192x512 .f32) (b : Fin 2) (k : Fin 512) (s : Fin 8192) :
    transpose S2x512x8192 [0, 2, 1] H transposes_S2x8192x512_S2x512x8192_0_2_1 (ix3 b k s) = H (ix3 b s k) := by
  pointwise

theorem kt_at (b : Fin 2) (k : Fin 512) (s : Fin 8192) : ktT Z A (ix3 b k s) =
    rotT (khT Z) A (ix4 b s ⟨k.val / 64, by omega⟩ ⟨k.val % 64, by omega⟩) :=
  (lanes_at _ b k s).trans (flat_at _ b s k)

theorem kiw_lo (b : Fin 2) (k : Fin 128) (s : Fin 8192) (hk : k.val < 64) : kiwT Z A (ix3 b k s) =
    rotKT (extractStridedSlice S2x8192x64 ![0, 0, 2048] Z slices_S2x8192x3012_S2x8192x64_0_0_2048) A
      (ix3 b s ⟨k.val, hk⟩) := by
  unfold kiwT
  pointwise
  rw [dif_pos hk]

theorem kiw_mid (b : Fin 2) (k : Fin 128) (s : Fin 8192) (hk : 64 ≤ k.val) (hk' : k.val < 68) : kiwT Z A (ix3 b k s) =
    Z (ix3 b s ⟨2112 + (k.val - 64), by omega⟩) := by
  unfold kiwT
  pointwise
  rw [dif_neg (by omega), dif_pos (by omega)]

theorem kiw_hi (b : Fin 2) (k : Fin 128) (s : Fin 8192) (hk : 68 ≤ k.val) : kiwT Z A (ix3 b k s) = 0 := by
  unfold kiwT
  pointwise
  rw [dif_neg (by omega), dif_neg (by omega)]

theorem ki_at (b : Fin 2) (s : Fin 8192) (l : Fin 64) : extractStridedSlice S2x8192x64 ![0, 0, 2048] Z
    slices_S2x8192x3012_S2x8192x64_0_0_2048 (ix3 b s l) = Z (ix3 b s ⟨2048 + l.val, by omega⟩) := by
  pointwise

end Cert.Proof.InprojRef
-- ==== Proof.InprojHost.lean ====
module

public import proofs.«01_k».proof.Proof.Gen.Kernel5Ideal.Value
public import proofs.«01_k».proof.Proof.InprojRef
public import Idealize.ShloMosaic.Lib.StableHlo.RunRead
public import Idealize.ShloMosaic.Lib.Pipeline.ValueKit
public import Idealize.ShloMosaic.Lib.Pointwise
public import Idealize.ShloMosaic.Lib.Pipeline.ReadBack
public import Idealize.ShloMosaic.Lib.WordCmp

@[expose] public section

set_option maxHeartbeats 4000000
set_option maxRecDepth 16384

noncomputable section

/-! The input projection's blocks, at one row and lane. -/

namespace Cert.Proof.Inproj

open Idealize.ShloMosaic Idealize.ShloMosaic.TcCoe Idealize.ShloMosaic.StableHlo Idealize.SL.Sem
open Cert.Kernel5Ideal Cert.Kernel5Ideal.Gen Cert.Proof.Rows

/-- The lane a lane is paired with in the rotation. -/
def sw (j : Fin 128) : Fin 128 := ⟨if j.val % 64 < 32 then j.val + 32 else j.val - 32, by split <;> omega⟩

/-- A block of 128 lanes turned by the tables of the body: the lanes 32 up or down by the lane's own bit. -/
def turnB (x c s : FVec Ideal S256x128 .f32) : FVec Ideal S256x128 .f32 :=
  addf (mulf x c) (mulf (select (cmpi .eq (andi (iota .tc S256x128 32 [1] iota_S256x128_d1_w32) (broadcast S256x128 32#32))
    (broadcast S256x128 0#32)) (dynamicRotate 1 96#32 none x rotates_S256x128_d1)
    (dynamicRotate 1 32#32 none x rotates_S256x128_d1)) s)

theorem bit_at (j : Fin 128) : IntOp.cmpi CmpIPredicate.eq (IntOp.andi (BitVec.ofNat 32 j.val) 32#32) 0#32 =
    if j.val % 64 < 32 then 1#1 else 0#1 := by
  revert j; decide +kernel

theorem turnB_at (x c s : FVec Ideal S256x128 .f32) (r : Fin 256) (j : Fin 128) :
    turnB x c s (ix2 r j) = x (ix2 r j) * c (ix2 r j) + x (ix2 r (sw j)) * s (ix2 r j) := by
  unfold turnB sw
  pointwise
  have e : (j.val + 128 - 96) % 128 = if j.val + 32 < 128 then j.val + 32 else j.val - 96 := by split <;> omega
  rw [bit_at]
  by_cases h : j.val % 64 < 32
  · have e : (j.val + 128 - 96) % 128 = j.val + 32 := by omega
    simp only [if_pos h, e]
    rfl
  · have e : (j.val + 128 - 32) % 128 = j.val - 32 := by omega
    simp only [if_neg h, e]
    rfl

theorem z_at (x : Vec Ideal S256x1024 .f32) (g : Vec Ideal S1x1024 .f32) (sc sh : Vec Ideal S1x1x1024 .f32)
    (w : Vec Ideal S1024x3072 .bf16) (r : Fin 256) (k : Fin 3072) : k0_pay7 x g sc sh w (ix2 r k) =
      ∑ i, pre (fun k => x (ix2 r k)) (fun k => g (ix2 0 k)) (fun k => sc (ix3 0 0 k)) (fun k => sh (ix3 0 0 k)) i *
        w (ix2 i k) := by
  unfold k0_pay7 pre rms
  pointwise

variable (m : (ℓ : Loc nD τ sig) → Buf (Elt Ideal) ℓ) (c : Dev nD)

theorem idx : ∀ t : Fin grid0.N, win0_0.index t = ![t.val, 0] ∧ win0_1.index t = ![t.val / 32, 0, 0] ∧
    win0_2.index t = ![t.val / 32, 0, 0] ∧ win0_3.index t = ![0, 0] ∧ win0_4.index t = ![0, 0] ∧
    win0_5.index t = ![t.val % 32, 0] ∧ win0_6.index t = ![t.val % 32, 0] ∧ win0_7.index t = ![t.val, 0] ∧
    win0_8.index t = ![t.val, 0] ∧ win0_10.index t = ![t.val, 0] ∧ win0_16.index t = ![t.val, 0] ∧
    win0_17.index t = ![t.val / 32, 0, t.val % 32] ∧ win0_18.index t = ![t.val / 32, 0, t.val % 32] ∧
    win0_19.index t = ![t.val / 32, 0, t.val % 32] ∧ win0_20.index t = ![t.val / 32, 0, t.val % 32] := by
  decide +kernel

/-- The tables' rows: each frequency twice over the 64 lanes of a head, two heads to the block. -/
def tabT (a b : FVec Ideal S8192x32 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩]
    concatenates_S8192x32_S8192x32_S8192x64_d1) shapeCasts_S8192x64_S1x8192x1x64)) shapeCasts_S1x8192x2x64_S8192x128

theorem tab_at (a b : FVec Ideal S8192x32 .f32) (p : Fin 8192) (j : Fin 128) : tabT a b (ix2 p j) =
    if j.val % 64 < 32 then a (ix2 p ⟨j.val % 32, by omega⟩) else b (ix2 p ⟨j.val % 32, by omega⟩) := by
  unfold tabT
  pointwise
  by_cases h : j.val % 64 < 32
  · have e : j.val % 64 = j.val % 32 := by omega
    rw [dif_pos h, if_pos h]
    simp only [e]
  · have e : j.val % 64 - 32 = j.val % 32 := by omega
    rw [dif_neg h, if_neg h]
    simp only [e]

/-- The weight with the index keys' columns moved behind the third mixer's, and 60 columns of zeros after them. -/
def packT (w : FVec Ideal S1024x3012 .f32) : FVec Ideal S1024x3072 .bf16 :=
  truncf .bf16 (concatenate S1024x3072 1 [⟨S1024x2048, extractStridedSlice S1024x2048 ![0, 0] w
    slices_S1024x3012_S1024x2048_0_0⟩, ⟨S1024x896, extractStridedSlice S1024x896 ![0, 2116] w
    slices_S1024x3012_S1024x896_0_2116⟩, ⟨S1024x68, extractStridedSlice S1024x68 ![0, 2048] w
    slices_S1024x3012_S1024x68_0_2048⟩, ⟨S1024x60, broadcastInDim S1024x60 ![] bcast_S_S1024x60 (constant S_ .f32
    0x00000000#32)⟩] concatenates_S1024x2048_S1024x896_S1024x68_S1024x60_S1024x3072_d1) bitsLt_bf16_f32

theorem pack_lo (w : FVec Ideal S1024x3012 .f32) (i : Fin 1024) (k : Fin 3072) (hk : k.val < 2048) :
    packT w (ix2 i k) = w (ix2 i ⟨k.val, by omega⟩) := by
  unfold packT
  pointwise
  rw [dif_pos hk]

theorem pack_rw (w : FVec Ideal S1024x3012 .f32) (i : Fin 1024) (k : Fin 3072) (hk : 2048 ≤ k.val) (hk' : k.val < 2944) :
    packT w (ix2 i k) = w (ix2 i ⟨2116 + (k.val - 2048), by omega⟩) := by
  unfold packT
  pointwise
  rw [dif_neg (by omega), dif_pos (by omega)]

theorem pack_ki (w : FVec Ideal S1024x3012 .f32) (i : Fin 1024) (k : Fin 3072) (hk : 2944 ≤ k.val) (hk' : k.val < 3012) :
    packT w (ix2 i k) = w (ix2 i ⟨2048 + (k.val - 2944), by omega⟩) := by
  unfold packT
  pointwise
  rw [dif_neg (by omega), dif_neg (by omega), dif_pos (by omega)]
  have e : k.val - 2048 - 896 = k.val - 2944 := by omega
  simp only [e]

theorem pack_hi (w : FVec Ideal S1024x3012 .f32) (i : Fin 1024) (k : Fin 3072) (hk : 3012 ≤ k.val) :
    packT w (ix2 i k) = (0 : EReal) := by
  unfold packT
  pointwise
  rw [dif_neg (by omega), dif_neg (by omega), dif_neg (by omega)]

theorem w_eq : V m c main_v39 = packT (m ((c.tc : Thread nD τ).loc main_arg3)) := by
  show StableHlo.after hostOps0 _ _ = _
  after_reads_simp
  rfl

theorem cos_eq : V m c main_v18 = tabT (Host.cos InprojRef.angT) (Host.cos InprojRef.angT) := by
  show StableHlo.after hostOps0 _ _ = _
  after_reads_simp
  rfl

theorem sin_eq : V m c main_v23 = tabT (Host.negf (Host.sin InprojRef.angT)) (Host.sin InprojRef.angT) := by
  show StableHlo.after hostOps0 _ _ = _
  after_reads_simp
  rfl

variable (t : Fin cfg0.N)

theorem lt : t.val < 64 := t.isLt

/-! What each window's block holds of the arguments. -/

theorem x_at (r : Fin 256) (k : Fin 1024) : iblk m c 0 t (ix2 r k) = m ((c.tc : Thread nD τ).loc main_arg0)
    (ix3 ⟨t.val / 32, by have := lt t; omega⟩ ⟨256 * (t.val % 32) + r.val, by omega⟩ k) := by
  have := lt t
  blk_ext! [iblk, V, idx t]
theorem shift_at (k : Fin 1024) : iblk m c 1 t (ix3 0 0 k) = m ((c.tc : Thread nD τ).loc main_arg1)
    (ix4 ⟨t.val / 32, by have := lt t; omega⟩ 1 0 k) := by
  have := lt t
  blk_ext! [iblk, V, idx t]
theorem scale_at (k : Fin 1024) : iblk m c 2 t (ix3 0 0 k) = m ((c.tc : Thread nD τ).loc main_arg1)
    (ix4 ⟨t.val / 32, by have := lt t; omega⟩ 1 1 k) := by
  have := lt t
  blk_ext! [iblk, V, idx t]
theorem g_at (k : Fin 1024) : iblk m c 3 t (ix2 0 k) = m ((c.tc : Thread nD τ).loc main_arg2) (ix2 1 k) := by
  blk_ext! [iblk, V, idx t]
theorem w_at (i : Fin 1024) (k : Fin 3072) : iblk m c 4 t (ix2 i k) = V m c main_v39 (ix2 i k) := by
  blk_ext! [iblk, idx t]
theorem cos_at (r : Fin 256) (j : Fin 128) : iblk m c 5 t (ix2 r j) = V m c main_v18
    (ix2 ⟨256 * (t.val % 32) + r.val, by omega⟩ j) := by
  blk_ext! [iblk, idx t]
theorem sin_at (r : Fin 256) (j : Fin 128) : iblk m c 6 t (ix2 r j) = V m c main_v23
    (ix2 ⟨256 * (t.val % 32) + r.val, by omega⟩ j) := by
  blk_ext! [iblk, idx t]

end Cert.Proof.Inproj
-- ==== Proof.InprojRows.lean ====
module

public import proofs.«01_k».proof.Proof.Gen.Kernel5Ideal.Value
public import proofs.«01_k».proof.Proof.InprojRef
public import proofs.«01_k».proof.Proof.InprojHost
public import Idealize.ShloMosaic.Lib.Pipeline.ValueKit
public import Idealize.ShloMosaic.Lib.Pointwise
public import Idealize.ShloMosaic.Lib.Pipeline.ReadBack
public import Idealize.ShloMosaic.Lib.WordCmp

@[expose] public section

set_option maxHeartbeats 1000000
set_option maxRecDepth 16384

noncomputable section

/-! The input projection: the rows of a block, projected and rotated, are rows of the reference. -/

namespace Cert.Proof.Inproj

open Idealize.ShloMosaic Idealize.ShloMosaic.TcCoe Idealize.SL.Sem
open Cert.Kernel5Ideal Cert.Kernel5Ideal.Gen Cert.Proof.Rows

variable (m : (ℓ : Loc nD τ sig) → Buf (Elt Ideal) ℓ) (c : Dev nD)

/-- The reference's projected rows of the kernel's arguments. -/
def rows : FVec Ideal Cert.Reference5Ideal.S2x8192x3012 .f32 :=
  InprojRef.zT (InprojRef.preT (m ((c.tc : Thread nD τ).loc main_arg0)) (m ((c.tc : Thread nD τ).loc main_arg1))
    (m ((c.tc : Thread nD τ).loc main_arg2))) (m ((c.tc : Thread nD τ).loc main_arg3))

variable (t : Fin cfg0.N)

/-- The block of projected rows at point `t`. -/
def zB : FVec Ideal S256x3072 .f32 :=
  k0_pay61 (iblk m c 0 t) (iblk m c 1 t) (iblk m c 2 t) (iblk m c 3 t) (iblk m c 4 t) (iblk m c 5 t) (iblk m c 6 t)

/-- The cosines' block at point `t`. -/
def cB : FVec Ideal S256x128 .f32 :=
  k0_pay62 (iblk m c 0 t) (iblk m c 1 t) (iblk m c 2 t) (iblk m c 3 t) (iblk m c 4 t) (iblk m c 5 t) (iblk m c 6 t)

/-- The signed sines' block at point `t`. -/
def sB : FVec Ideal S256x128 .f32 :=
  k0_pay63 (iblk m c 0 t) (iblk m c 1 t) (iblk m c 2 t) (iblk m c 3 t) (iblk m c 4 t) (iblk m c 5 t) (iblk m c 6 t)

/-- The batch of point `t`. -/
def bat : Fin 2 := ⟨t.val / 32, by have := lt t; omega⟩

/-- The position of row `r` of point `t`. -/
def pos (r : Fin 256) : Fin 8192 := ⟨256 * (t.val % 32) + r.val, by omega⟩

theorem zB_eq : zB m c t = k0_pay7 (iblk m c 0 t) (iblk m c 3 t) (iblk m c 2 t) (iblk m c 1 t) (iblk m c 4 t) := by
  unfold zB k0_pay61
  simp (disch := decide) only [View.ld_unit_lit']

theorem zB_sum (r : Fin 256) (k : Fin 3072) : zB m c t (ix2 r k) =
    ∑ i, InprojRef.preT (m ((c.tc : Thread nD τ).loc main_arg0)) (m ((c.tc : Thread nD τ).loc main_arg1))
      (m ((c.tc : Thread nD τ).loc main_arg2)) (ix3 (bat t) (pos t r) i) *
      packT (m ((c.tc : Thread nD τ).loc main_arg3)) (ix2 i k) := by
  rw [zB_eq, z_at]
  refine Finset.sum_congr rfl fun i _ => ?_
  rw [InprojRef.pre_at, w_at, w_eq]
  simp only [x_at, shift_at, scale_at, g_at]
  rfl

theorem zB_of (r : Fin 256) (k : Fin 3072) (k' : Fin 3012) (h : ∀ i, packT (m ((c.tc : Thread nD τ).loc main_arg3)) (ix2 i k) =
    (m ((c.tc : Thread nD τ).loc main_arg3) : FVec Ideal S1024x3012 .f32) (ix2 i k')) : zB m c t (ix2 r k) =
    rows m c (ix3 (bat t) (pos t r) k') := by
  rw [zB_sum, rows, InprojRef.z_at]
  exact Finset.sum_congr rfl fun i _ => congrArg (fun b : EReal => _ * b) (h i)

theorem zB_lo (r : Fin 256) (k : Fin 3072) (hk : k.val < 2048) : zB m c t (ix2 r k) =
    rows m c (ix3 (bat t) (pos t r) ⟨k.val, by omega⟩) := zB_of m c t r k _ fun i => pack_lo _ i k hk

theorem zB_hi (r : Fin 256) (k : Fin 3072) (hk : 3012 ≤ k.val) : zB m c t (ix2 r k) = (0 : EReal) := by
  rw [zB_sum]
  refine Finset.sum_eq_zero fun i _ => ?_
  rw [pack_hi _ i k hk]
  exact mul_zero _

theorem cB_at (r : Fin 256) (x : Fin 128) : cB m c t (ix2 r x) =
    Ideal.cos (InprojRef.angT (ix2 (pos t r) ⟨x.val % 32, by omega⟩)) := by
  have e : cB m c t (ix2 r x) = iblk m c 5 t (ix2 r x) := by
    unfold cB k0_pay62 k0_pay8
    simp (disch := decide) only [View.ld_unit_lit']
    pointwise
  rw [e, cos_at, cos_eq, tab_at]
  split <;> rfl

theorem sB_at (r : Fin 256) (x : Fin 128) : sB m c t (ix2 r x) = if x.val % 64 < 32 then
    -Ideal.sin (InprojRef.angT (ix2 (pos t r) ⟨x.val % 32, by omega⟩)) else
    Ideal.sin (InprojRef.angT (ix2 (pos t r) ⟨x.val % 32, by omega⟩)) := by
  have e : sB m c t (ix2 r x) = iblk m c 6 t (ix2 r x) := by
    unfold sB k0_pay63 k0_pay9
    simp (disch := decide) only [View.ld_unit_lit']
    pointwise
  rw [e, sin_at, sin_eq, tab_at]
  split <;> rfl

/-- The body's rotation of a block is the reference's, lane by lane. -/
theorem turn_at (X : FVec Ideal S256x128 .f32) (r : Fin 256) (x : Fin 128) :
    turnB X (cB m c t) (sB m c t) (ix2 r x) = InprojRef.turn (X (ix2 r x)) (X (ix2 r (sw x)))
      (InprojRef.angT (ix2 (pos t r) ⟨x.val % 32, by omega⟩)) (x.val % 64 < 32) := by
  rw [turnB_at, cB_at, sB_at]
  unfold InprojRef.turn
  split
  · rw [mul_neg, sub_eq_add_neg]
  · exact add_comm _ _

theorem head_at (H : FVec Ideal Cert.Reference5Ideal.S2x8192x8x64 .f32) (X : FVec Ideal S256x128 .f32) (r : Fin 256)
    (f : Fin 512 → EReal) (k : ℕ) (hk : k < 4) (hX : ∀ y : Fin 128, X (ix2 r y) = f ⟨128 * k + y.val, by omega⟩)
    (hH : ∀ (h : Fin 8) (l : Fin 64), H (ix4 (bat t) (pos t r) h l) = f ⟨h.val * 64 + l.val, by omega⟩)
    (x : Fin 128) (j : Fin 512) (hj : j.val = 128 * k + x.val) : turnB X (cB m c t) (sB m c t) (ix2 r x) =
      InprojRef.rotT H InprojRef.angT (ix4 (bat t) (pos t r) ⟨j.val / 64, by omega⟩ ⟨j.val % 64, by omega⟩) := by
  rw [turn_at, InprojRef.rot_at, hX, hX, hH, hH]
  have e1 : 128 * k + x.val = j.val / 64 * 64 + j.val % 64 := by omega
  have e2 : 128 * k + (sw x).val = j.val / 64 * 64 + (if j.val % 64 < 32 then j.val % 64 + 32 else j.val % 64 - 32) := by
    unfold sw
    dsimp only
    split <;> split <;> omega
  have e3 : x.val % 32 = j.val % 64 % 32 := by omega
  have e4 : x.val % 64 = j.val % 64 := by omega
  simp only [e1, e2, e3, e4]

end Cert.Proof.Inproj
-- ==== Proof.InprojOut.lean ====
module

public import proofs.«01_k».proof.Proof.Gen.Kernel5Ideal.Value
public import proofs.«01_k».proof.Proof.InprojRef
public import proofs.«01_k».proof.Proof.InprojRows
public import Idealize.ShloMosaic.Lib.Pipeline.ValueKit
public import Idealize.ShloMosaic.Lib.Pointwise
public import Idealize.ShloMosaic.Lib.Pipeline.ReadBack
public import Idealize.ShloMosaic.Lib.WordCmp

@[expose] public section

set_option maxHeartbeats 1000000
set_option maxRecDepth 16384

noncomputable section

/-! The input projection: what a point leaves in each output's block is what the reference has there. -/

namespace Cert.Proof.Inproj

open Idealize.ShloMosaic Idealize.ShloMosaic.TcCoe Idealize.SL.Sem
open Cert.Kernel5Ideal Cert.Kernel5Ideal.Gen Cert.Proof.Rows
open Idealize.ShloMosaic.Pipeline (Dat)

variable (m : (ℓ : Loc nD τ sig) → Buf (Elt Ideal) ℓ) (c : Dev nD) (t : Fin cfg0.N)

/-- Row `r` of point `t` among all the tokens. -/
def tok (r : Fin 256) : Fin 16384 := ⟨256 * t.val + r.val, by have := lt t; omega⟩

theorem tok_bat (r : Fin 256) : (⟨(tok t r).val / 8192, by omega⟩ : Fin 2) = bat t := by
  have := lt t
  refine Fin.ext ?_
  show (256 * t.val + r.val) / 8192 = t.val / 32
  omega

theorem tok_pos (r : Fin 256) : (⟨(tok t r).val % 8192, by omega⟩ : Fin 8192) = pos t r := by
  have := lt t
  refine Fin.ext ?_
  show (256 * t.val + r.val) % 8192 = 256 * (t.val % 32) + r.val
  omega

/-! The queries' and the keys' heads: a piece of 128 lanes, turned. -/

theorem q_head (X : FVec Ideal S256x128 .f32) (r : Fin 256) (k : ℕ) (hk : k < 4)
    (hX : ∀ y : Fin 128, X (ix2 r y) = zB m c t (ix2 r ⟨256 + (128 * k + y.val), by omega⟩)) (x : Fin 128) (j : Fin 512)
    (hj : j.val = 128 * k + x.val) : turnB X (cB m c t) (sB m c t) (ix2 r x) * Ideal.ofBits FTy.f32 0x3E38AA3B#32 =
      InprojRef.qT (rows m c) InprojRef.angT (ix2 (tok t r) j) := by
  rw [InprojRef.q_at, tok_bat, tok_pos, head_at m c t (InprojRef.qhT (rows m c)) X r
    (fun l => rows m c (ix3 (bat t) (pos t r) ⟨256 + l.val, by omega⟩)) k hk
    (fun y => (hX y).trans (zB_lo m c t r _ (by show 256 + (128 * k + y.val) < 2048; omega)))
    (fun h l => InprojRef.qh_at _ _ _ h l) x j hj]

theorem k_head (X : FVec Ideal S256x128 .f32) (r : Fin 256) (k : ℕ) (hk : k < 4)
    (hX : ∀ y : Fin 128, X (ix2 r y) = zB m c t (ix2 r ⟨768 + (128 * k + y.val), by omega⟩)) (x : Fin 128) (j : Fin 512)
    (hj : j.val = 128 * k + x.val) : turnB X (cB m c t) (sB m c t) (ix2 r x) =
      InprojRef.rotT (InprojRef.khT (rows m c)) InprojRef.angT (ix4 (bat t) (pos t r) ⟨j.val / 64, by omega⟩
        ⟨j.val % 64, by omega⟩) :=
  head_at m c t (InprojRef.khT (rows m c)) X r
    (fun l => rows m c (ix3 (bat t) (pos t r) ⟨768 + l.val, by omega⟩)) k hk
    (fun y => (hX y).trans (zB_lo m c t r _ (by show 768 + (128 * k + y.val) < 2048; omega)))
    (fun h l => InprojRef.kh_at _ _ _ h l) x j hj

/-- A block's lanes from lane `o` on. -/
theorem slice_at (z : FVec Ideal S256x3072 .f32) (o : ℕ) (h : S256x3072.Slices ![0, o] S256x128) (ho : o + 128 ≤ 3072) (r : Fin 256)
    (y : Fin 128) : extractStridedSlice S256x128 ![0, o] z h (ix2 r y) = z (ix2 r ⟨o + y.val, by omega⟩) := by
  pointwise

/-! An output of 512 lanes is four pieces of 128. -/

theorem canon_lanes {e : EltTy} (p3 p2 p1 p0 : Vec Ideal S256x128 e) (r : Fin 256) (k : Fin 512) (v : Elt Ideal e)
    (g3 : ∀ x : Fin 128, k.val = 128 * 3 + x.val → p3 (ix2 r x) = v)
    (g2 : ∀ x : Fin 128, k.val = 128 * 2 + x.val → p2 (ix2 r x) = v)
    (g1 : ∀ x : Fin 128, k.val = 128 * 1 + x.val → p1 (ix2 r x) = v)
    (g0 : ∀ x : Fin 128, k.val = 128 * 0 + x.val → p0 (ix2 r x) = v) :
    View.canon ([⟨r0_12, p3⟩, ⟨r0_10, p2⟩, ⟨r0_8, p1⟩, ⟨r0_6, p0⟩] : List (View.Piece (Elt Ideal) S256x512 e)) (ix2 r k) = v := by
  canon_tiles x h
  · idx_vars x
    obtain rfl : r = x0 := Fin.ext h0
    exact g3 x1 h1
  · idx_vars x
    obtain rfl : r = x0 := Fin.ext h0
    exact g2 x1 h1
  · idx_vars x
    obtain rfl : r = x0 := Fin.ext h0
    exact g1 x1 h1
  · idx_vars x
    obtain rfl : r = x0 := Fin.ext h0
    exact g0 x1 (by omega)

theorem canon_sublanes {e : EltTy} (p3 p2 p1 p0 : Vec Ideal S1x128x256 e) (k : Fin 512) (r : Fin 256) (v : Elt Ideal e)
    (g3 : ∀ x : Fin 128, k.val = 128 * 3 + x.val → p3 (ix3 0 x r) = v)
    (g2 : ∀ x : Fin 128, k.val = 128 * 2 + x.val → p2 (ix3 0 x r) = v)
    (g1 : ∀ x : Fin 128, k.val = 128 * 1 + x.val → p1 (ix3 0 x r) = v)
    (g0 : ∀ x : Fin 128, k.val = 128 * 0 + x.val → p0 (ix3 0 x r) = v) :
    View.canon ([⟨r0_13, p3⟩, ⟨r0_11, p2⟩, ⟨r0_9, p1⟩, ⟨r0_7, p0⟩] : List (View.Piece (Elt Ideal) S1x512x256 e)) (ix3 0 k r) = v := by
  canon_tiles x h
  · idx_vars x
    obtain rfl : x0 = 0 := Subsingleton.elim _ _
    obtain rfl : r = x2 := Fin.ext h2
    exact g3 x1 h1
  · idx_vars x
    obtain rfl : x0 = 0 := Subsingleton.elim _ _
    obtain rfl : r = x2 := Fin.ext h2
    exact g2 x1 h1
  · idx_vars x
    obtain rfl : x0 = 0 := Subsingleton.elim _ _
    obtain rfl : r = x2 := Fin.ext h2
    exact g1 x1 h1
  · idx_vars x
    obtain rfl : x0 = 0 := Subsingleton.elim _ _
    obtain rfl : r = x2 := Fin.ext h2
    exact g0 x1 (by omega)

/-- A turned block with its lanes first. -/
def flip (X : FVec Ideal S256x128 .f32) : FVec Ideal S1x128x256 .f32 :=
  shapeCast S1x128x256 (transpose S128x256 [1, 0] X transposes_S256x128_p1_0_S128x256) shapeCasts_S128x256_S1x128x256

theorem flip_at (X : FVec Ideal S256x128 .f32) (r : Fin 256) (x : Fin 128) : flip X (ix3 0 x r) = X (ix2 r x) := by
  unfold flip
  pointwise

/-- A turned block times the queries' scale. -/
def scaled (X : FVec Ideal S256x128 .f32) : FVec Ideal S256x128 .bf16 :=
  truncf .bf16 (mulf X (broadcast S256x128 (Scalar.ofBits .f32 0x3E38AA3B#32))) bitsLt_bf16_f32

theorem scaled_at (X : FVec Ideal S256x128 .f32) (r : Fin 256) (x : Fin 128) :
    scaled X (ix2 r x) = X (ix2 r x) * Ideal.ofBits FTy.f32 0x3E38AA3B#32 := by
  unfold scaled
  pointwise

/-! The payloads of the four pieces of each, from the block of projected rows and the tables' blocks. -/

section
variable (z : FVec Ideal S256x3072 .f32) (a b : FVec Ideal S256x128 .f32)

theorem pay12_eq : k0_pay12 z a b (iota .tc S256x128 32 [1] iota_S256x128_d1_w32) =
    scaled (turnB (extractStridedSlice S256x128 ![0, 256] z slices_S256x3072_o0_256_S256x128) a b) := rfl
theorem pay16_eq : k0_pay16 z a b (iota .tc S256x128 32 [1] iota_S256x128_d1_w32) =
    scaled (turnB (extractStridedSlice S256x128 ![0, 384] z slices_S256x3072_o0_384_S256x128) a b) := rfl
theorem pay22_eq : k0_pay22 a b (k0_pay20 z) (k0_pay21 (iota .tc S256x128 32 [1] iota_S256x128_d1_w32)) 0#32 =
    scaled (turnB (extractStridedSlice S256x128 ![0, 512] z slices_S256x3072_o0_512_S256x128) a b) := rfl
theorem pay29_eq : k0_pay29 a b (k0_pay26 z) (k0_pay27 (iota .tc S256x128 32 [1] iota_S256x128_d1_w32)) (k0_pay28 z) 32#32 =
    scaled (turnB (extractStridedSlice S256x128 ![0, 640] z slices_S256x3072_o0_640_S256x128) a b) := rfl
theorem pay13_eq : k0_pay13 z a b (iota .tc S256x128 32 [1] iota_S256x128_d1_w32) =
    turnB (extractStridedSlice S256x128 ![0, 768] z slices_S256x3072_o0_768_S256x128) a b := rfl
theorem pay17_eq : k0_pay17 z a b (iota .tc S256x128 32 [1] iota_S256x128_d1_w32) =
    turnB (extractStridedSlice S256x128 ![0, 896] z slices_S256x3072_o0_896_S256x128) a b := rfl
theorem pay23_eq : k0_pay23 z a b (iota .tc S256x128 32 [1] iota_S256x128_d1_w32) =
    turnB (extractStridedSlice S256x128 ![0, 1024] z slices_S256x3072_o0_1024_S256x128) a b := rfl
theorem pay30_eq : k0_pay30 z a b (iota .tc S256x128 32 [1] iota_S256x128_d1_w32) =
    turnB (extractStridedSlice S256x128 ![0, 1152] z slices_S256x3072_o0_1152_S256x128) a b := rfl

end

theorem q_piece (o k : ℕ) (h : S256x3072.Slices ![0, o] S256x128) (hk : k < 4) (ho : o = 256 + 128 * k)
    (r : Fin 256) (x : Fin 128) (j : Fin 512) (hj : j.val = 128 * k + x.val) :
    scaled (turnB (extractStridedSlice S256x128 ![0, o] (zB m c t) h) (cB m c t) (sB m c t)) (ix2 r x) =
      InprojRef.qT (rows m c) InprojRef.angT (ix2 (tok t r) j) := by
  subst ho
  rw [scaled_at]
  exact q_head m c t _ r k hk (fun y => (slice_at _ _ _ (by omega) r y).trans (by simp only [Nat.add_assoc])) x j hj

theorem k_piece (o k : ℕ) (h : S256x3072.Slices ![0, o] S256x128) (hk : k < 4) (ho : o = 768 + 128 * k)
    (r : Fin 256) (x : Fin 128) (j : Fin 512) (hj : j.val = 128 * k + x.val) :
    turnB (extractStridedSlice S256x128 ![0, o] (zB m c t) h) (cB m c t) (sB m c t) (ix2 r x) =
      InprojRef.rotT (InprojRef.khT (rows m c)) InprojRef.angT (ix4 (bat t) (pos t r) ⟨j.val / 64, by omega⟩
        ⟨j.val % 64, by omega⟩) := by
  subst ho
  exact k_head m c t _ r k hk (fun y => (slice_at _ _ _ (by omega) r y).trans (by simp only [Nat.add_assoc])) x j hj

theorem out8_at (r : Fin 256) (k : Fin 512) : out0_8 (iblk m c 0 t) (iblk m c 1 t) (iblk m c 2 t) (iblk m c 3 t) (iblk m c 4 t)
    (iblk m c 5 t) (iblk m c 6 t) (ix2 r k) = InprojRef.qT (rows m c) InprojRef.angT (ix2 (tok t r) k) := by
  unfold out0_8
  refine canon_lanes _ _ _ _ r k _ (fun x hx => ?_) (fun x hx => ?_) (fun x hx => ?_) (fun x hx => ?_)
  · exact (congrFun (pay29_eq (zB m c t) (cB m c t) (sB m c t)) _).trans (q_piece m c t _ 3 _ (by omega) rfl r x k hx)
  · exact (congrFun (pay22_eq (zB m c t) (cB m c t) (sB m c t)) _).trans (q_piece m c t _ 2 _ (by omega) rfl r x k hx)
  · exact (congrFun (pay16_eq (zB m c t) (cB m c t) (sB m c t)) _).trans (q_piece m c t _ 1 _ (by omega) rfl r x k hx)
  · exact (congrFun (pay12_eq (zB m c t) (cB m c t) (sB m c t)) _).trans (q_piece m c t _ 0 _ (by omega) rfl r x k hx)

theorem out10_at (r : Fin 256) (k : Fin 512) : out0_10 (iblk m c 0 t) (iblk m c 1 t) (iblk m c 2 t) (iblk m c 3 t) (iblk m c 4 t)
    (iblk m c 5 t) (iblk m c 6 t) (ix2 r k) = InprojRef.kbT (rows m c) InprojRef.angT (ix2 (tok t r) k) := by
  rw [InprojRef.kb_at, tok_bat, tok_pos]
  unfold out0_10
  refine canon_lanes _ _ _ _ r k _ (fun x hx => ?_) (fun x hx => ?_) (fun x hx => ?_) (fun x hx => ?_)
  · exact (congrFun (pay30_eq (zB m c t) (cB m c t) (sB m c t)) _).trans (k_piece m c t _ 3 _ (by omega) rfl r x k hx)
  · exact (congrFun (pay23_eq (zB m c t) (cB m c t) (sB m c t)) _).trans (k_piece m c t _ 2 _ (by omega) rfl r x k hx)
  · exact (congrFun (pay17_eq (zB m c t) (cB m c t) (sB m c t)) _).trans (k_piece m c t _ 1 _ (by omega) rfl r x k hx)
  · exact (congrFun (pay13_eq (zB m c t) (cB m c t) (sB m c t)) _).trans (k_piece m c t _ 0 _ (by omega) rfl r x k hx)

theorem out18_at (k : Fin 512) (r : Fin 256) : out0_18 (iblk m c 0 t) (iblk m c 1 t) (iblk m c 2 t) (iblk m c 3 t) (iblk m c 4 t)
    (iblk m c 5 t) (iblk m c 6 t) (ix3 0 k r) = InprojRef.ktT (rows m c) InprojRef.angT (ix3 (bat t) k (pos t r)) := by
  rw [InprojRef.kt_at]
  unfold out0_18
  refine canon_sublanes _ _ _ _ k r _ (fun x hx => ?_) (fun x hx => ?_) (fun x hx => ?_) (fun x hx => ?_)
  · exact (flip_at _ r x).trans ((congrFun (pay30_eq (zB m c t) (cB m c t) (sB m c t)) _).trans
      (k_piece m c t _ 3 _ (by omega) rfl r x k hx))
  · exact (flip_at _ r x).trans ((congrFun (pay23_eq (zB m c t) (cB m c t) (sB m c t)) _).trans
      (k_piece m c t _ 2 _ (by omega) rfl r x k hx))
  · exact (flip_at _ r x).trans ((congrFun (pay17_eq (zB m c t) (cB m c t) (sB m c t)) _).trans
      (k_piece m c t _ 1 _ (by omega) rfl r x k hx))
  · exact (flip_at _ r x).trans ((congrFun (pay13_eq (zB m c t) (cB m c t) (sB m c t)) _).trans
      (k_piece m c t _ 0 _ (by omega) rfl r x k hx))

/-! The outputs of one piece. -/

theorem zero2 : (![0, 0] : Fin 2 → ℕ) = fun _ => 0 := by decide
theorem zero3 : (![0, 0, 0] : Fin 3 → ℕ) = fun _ => 0 := by decide

theorem pay11_at (z : FVec Ideal S256x3072 .f32) (r : Fin 256) (k : Fin 256) :
    k0_pay11 z (ix2 r k) = z (ix2 r ⟨k.val, by omega⟩) := by
  unfold k0_pay11
  pointwise

theorem out7_at (r : Fin 256) (k : Fin 256) : out0_7 (iblk m c 0 t) (iblk m c 1 t) (iblk m c 2 t) (iblk m c 3 t) (iblk m c 4 t)
    (iblk m c 5 t) (iblk m c 6 t) (ix2 r k) = InprojRef.uT (rows m c) (ix2 (tok t r) k) := by
  rw [InprojRef.u_at, tok_bat, tok_pos]
  unfold out0_7
  exact (congrFun (View.canon_unit_zero zero2 _ _) _).trans ((pay11_at (zB m c t) r k).trans
    (zB_lo m c t r ⟨k.val, by omega⟩ (by show k.val < 2048; omega)))

theorem pay6_at (z : FVec Ideal S256x3072 .f32) (r : Fin 256) (k : Fin 896) :
    k0_pay6 z (ix2 r k) = z (ix2 r ⟨2048 + k.val, by omega⟩) := by
  unfold k0_pay6
  pointwise

theorem out16_at (r : Fin 256) (k : Fin 896) : out0_16 (iblk m c 0 t) (iblk m c 1 t) (iblk m c 2 t) (iblk m c 3 t) (iblk m c 4 t)
    (iblk m c 5 t) (iblk m c 6 t) (ix2 r k) = InprojRef.rwT (rows m c) (ix2 (tok t r) k) := by
  rw [InprojRef.rw_at, tok_bat, tok_pos]
  unfold out0_16
  refine (congrFun (View.canon_unit_zero zero2 _ _) _).trans ((pay6_at (zB m c t) r k).trans ?_)
  refine zB_of m c t r _ _ fun i => (pack_rw _ i _ (by show 2048 ≤ 2048 + k.val; omega)
    (by show 2048 + k.val < 2944; omega)).trans ?_
  simp only [Nat.add_sub_cancel_left]

theorem pay36_at (z : FVec Ideal S256x3072 .f32) (k : Fin 512) (r : Fin 256) :
    k0_pay36 (k0_pay35 z) (ix3 0 k r) = z (ix2 r ⟨1280 + k.val, by omega⟩) := by
  unfold k0_pay36 k0_pay35 k0_pay33
  pointwise

theorem pay37_at (z : FVec Ideal S256x3072 .f32) (k : Fin 512) (r : Fin 256) :
    k0_pay37 (k0_pay35 z) (ix3 0 k r) = z (ix2 r ⟨1280 + k.val, by omega⟩) := by
  unfold k0_pay37 k0_pay35 k0_pay33
  pointwise

theorem vt_row (k : Fin 512) (r : Fin 256) : zB m c t (ix2 r ⟨1280 + k.val, by omega⟩) =
    InprojRef.vtT (rows m c) (ix3 (bat t) k (pos t r)) := by
  rw [InprojRef.vt_at]
  exact zB_lo m c t r _ (by show 1280 + k.val < 2048; omega)

theorem out17_at (k : Fin 512) (r : Fin 256) : out0_17 (iblk m c 0 t) (iblk m c 1 t) (iblk m c 2 t) (iblk m c 3 t) (iblk m c 4 t)
    (iblk m c 5 t) (iblk m c 6 t) (ix3 0 k r) = InprojRef.vtT (rows m c) (ix3 (bat t) k (pos t r)) := by
  unfold out0_17
  exact (congrFun (View.canon_unit_zero zero3 _ _) _).trans ((pay37_at (zB m c t) k r).trans (vt_row m c t k r))

theorem out19_at (k : Fin 512) (r : Fin 256) : out0_19 (iblk m c 0 t) (iblk m c 1 t) (iblk m c 2 t) (iblk m c 3 t) (iblk m c 4 t)
    (iblk m c 5 t) (iblk m c 6 t) (ix3 0 k r) = InprojRef.vtT (rows m c) (ix3 (bat t) k (pos t r)) := by
  unfold out0_19
  exact (congrFun (View.canon_unit_zero zero3 _ _) _).trans ((pay36_at (zB m c t) k r).trans (vt_row m c t k r))

theorem lane_at (k : Fin 128) : IntOp.cmpi CmpIPredicate.slt (BitVec.ofNat 32 k.val) 64#32 =
    if k.val < 64 then 1#1 else 0#1 := by
  revert k; decide +kernel

/-- The index keys' piece: turned below lane 64, as projected from there. -/
theorem pay2_at (z : FVec Ideal S256x3072 .f32) (a b : FVec Ideal S256x128 .f32) (k : Fin 128) (r : Fin 256) :
    k0_pay2 b k0_pay10 (k0_pay57 z) (k0_pay58 z (iota .tc S256x128 32 [1] iota_S256x128_d1_w32)) (k0_pay59 z a) (ix3 0 k r) =
      if k.val < 64 then turnB (extractStridedSlice S256x128 ![0, 2944] z slices_S256x3072_o0_2944_S256x128) a b (ix2 r k)
      else z (ix2 r ⟨2944 + k.val, by omega⟩) := by
  have e : k0_pay2 b k0_pay10 (k0_pay57 z) (k0_pay58 z (iota .tc S256x128 32 [1] iota_S256x128_d1_w32)) (k0_pay59 z a) =
    flip (select (cmpi .slt (iota .tc S256x128 32 [1] iota_S256x128_d1_w32) (broadcast S256x128 64#32))
      (turnB (extractStridedSlice S256x128 ![0, 2944] z slices_S256x3072_o0_2944_S256x128) a b)
      (extractStridedSlice S256x128 ![0, 2944] z slices_S256x3072_o0_2944_S256x128)) := rfl
  rw [e, flip_at]
  generalize turnB (extractStridedSlice S256x128 ![0, 2944] z slices_S256x3072_o0_2944_S256x128) a b = T
  pointwise
  rw [lane_at]
  split <;> rfl

theorem kiw_row (k : Fin 3072) (k' : Fin 3012) (r : Fin 256) (h : 2944 ≤ k.val) (h' : k.val < 3012)
    (e : k'.val = 2048 + (k.val - 2944)) : zB m c t (ix2 r k) = rows m c (ix3 (bat t) (pos t r) k') := by
  refine zB_of m c t r _ _ fun i => (pack_ki _ i _ h h').trans ?_
  exact congrArg (fun l => (m ((c.tc : Thread nD τ).loc main_arg3) : FVec Ideal S1024x3012 .f32) (ix2 i l)) (Fin.ext e.symm)

theorem out20_at (k : Fin 128) (r : Fin 256) : out0_20 (iblk m c 0 t) (iblk m c 1 t) (iblk m c 2 t) (iblk m c 3 t) (iblk m c 4 t)
    (iblk m c 5 t) (iblk m c 6 t) (ix3 0 k r) = InprojRef.kiwT (rows m c) InprojRef.angT (ix3 (bat t) k (pos t r)) := by
  unfold out0_20
  refine (congrFun (View.canon_unit_zero zero3 _ _) _).trans ((pay2_at (zB m c t) (cB m c t) (sB m c t) k r).trans ?_)
  by_cases hk : k.val < 64
  · have hs : (sw k).val = if k.val < 32 then k.val + 32 else k.val - 32 := by
      unfold sw
      dsimp only
      split <;> split <;> omega
    have hs' : (sw k).val < 64 := by rw [hs]; split <;> omega
    have e4 : k.val % 64 = k.val := by omega
    rw [if_pos hk, InprojRef.kiw_lo _ _ _ _ _ hk, InprojRef.rotK_at, InprojRef.ki_at, InprojRef.ki_at, turn_at,
      slice_at _ _ _ (by omega), slice_at _ _ _ (by omega),
      kiw_row m c t ⟨2944 + k.val, by omega⟩ ⟨2048 + k.val, by omega⟩ r (by show 2944 ≤ 2944 + k.val; omega)
        (by show 2944 + k.val < 3012; omega) (by show 2048 + k.val = 2048 + (2944 + k.val - 2944); omega),
      kiw_row m c t ⟨2944 + (sw k).val, by omega⟩ ⟨2048 + (sw k).val, by omega⟩ r (by show 2944 ≤ 2944 + (sw k).val; omega)
        (by show 2944 + (sw k).val < 3012; omega) (by show 2048 + (sw k).val = 2048 + (2944 + (sw k).val - 2944); omega)]
    simp only [hs, e4]
  · rw [if_neg hk]
    by_cases hk' : k.val < 68
    · rw [InprojRef.kiw_mid _ _ _ _ _ (by omega) hk']
      exact kiw_row m c t _ _ r (by show 2944 ≤ 2944 + k.val; omega) (by show 2944 + k.val < 3012; omega)
        (by show 2112 + (k.val - 64) = 2048 + (2944 + k.val - 2944); omega)
    · rw [InprojRef.kiw_hi _ _ _ _ _ (by omega)]
      exact zB_hi m c t r _ (by show 3012 ≤ 2944 + k.val; omega)

end Cert.Proof.Inproj

end
-- ==== Proof.Inproj.lean ====
module

public import proofs.«01_k».proof.Proof.Gen.Kernel5Ideal.Value
public import proofs.«01_k».proof.Proof.Gen.Reference5Ideal.Run
public import proofs.«01_k».proof.Proof.InprojRef
public import proofs.«01_k».proof.Proof.InprojOut
public import proofs.«01_k».proof.Defs
public import Idealize.ShloMosaic.Lib.Pipeline.ValueKit
public import Idealize.ShloMosaic.Lib.Pointwise
public import Idealize.ShloMosaic.Lib.Pipeline.ReadBack

@[expose] public section

set_option maxHeartbeats 1000000
set_option maxRecDepth 16384

noncomputable section

/-! The input projection: the final arrays are the reference's results, so the two runs agree. -/

namespace Cert.Proof.Inproj

open Idealize.ShloMosaic Idealize.ShloMosaic.TcCoe Idealize.SL.Sem
open Cert.Kernel5Ideal Cert.Kernel5Ideal.Gen Cert.Proof.Rows

variable (m : (ℓ : Loc nD τ sig) → Buf (Elt Ideal) ℓ) (c : Dev nD) (t : Fin cfg0.N)

/-! Where each output's block lies in its array. -/

theorem idx7 (r : Fin 256) (k : Fin 256) : (win0_7.blk t).view.emb (ix2 r k) = ix2 (tok t r) k := by
  have := lt t
  unfold tok
  blk_ext [idx t]
theorem idx8 (r : Fin 256) (k : Fin 512) : (win0_8.blk t).view.emb (ix2 r k) = ix2 (tok t r) k := by
  have := lt t
  unfold tok
  blk_ext [idx t]
theorem idx10 (r : Fin 256) (k : Fin 512) : (win0_10.blk t).view.emb (ix2 r k) = ix2 (tok t r) k := by
  have := lt t
  unfold tok
  blk_ext [idx t]
theorem idx16 (r : Fin 256) (k : Fin 896) : (win0_16.blk t).view.emb (ix2 r k) = ix2 (tok t r) k := by
  have := lt t
  unfold tok
  blk_ext [idx t]
theorem idx17 (k : Fin 512) (r : Fin 256) : (win0_17.blk t).view.emb (ix3 0 k r) = ix3 (bat t) k (pos t r) := by
  have := lt t
  unfold bat pos
  blk_ext [idx t]
theorem idx18 (k : Fin 512) (r : Fin 256) : (win0_18.blk t).view.emb (ix3 0 k r) = ix3 (bat t) k (pos t r) := by
  have := lt t
  unfold bat pos
  blk_ext [idx t]
theorem idx19 (k : Fin 512) (r : Fin 256) : (win0_19.blk t).view.emb (ix3 0 k r) = ix3 (bat t) k (pos t r) := by
  have := lt t
  unfold bat pos
  blk_ext [idx t]
theorem idx20 (k : Fin 128) (r : Fin 256) : (win0_20.blk t).view.emb (ix3 0 k r) = ix3 (bat t) k (pos t r) := by
  have := lt t
  unfold bat pos
  blk_ext [idx t]

/-! The final arrays. -/

theorem final7 : (dats m 0 c).arrAt 7 cfg0.N = InprojRef.uT (rows m c) := by
  refine (dats m 0 c).arrAt_eq_of_covers 7 _ (by decide +kernel) fun t hf y => ?_
  blk_simp
  rw [after0_7]
  idx_vars y
  rw [idx7]
  exact out7_at m c t y0 y1

theorem final8 : (dats m 0 c).arrAt 8 cfg0.N = InprojRef.qT (rows m c) InprojRef.angT := by
  refine (dats m 0 c).arrAt_eq_of_covers 8 _ (by decide +kernel) fun t hf y => ?_
  blk_simp
  rw [after0_8]
  idx_vars y
  rw [idx8]
  exact out8_at m c t y0 y1

theorem final10 : (dats m 0 c).arrAt 10 cfg0.N = InprojRef.kbT (rows m c) InprojRef.angT := by
  refine (dats m 0 c).arrAt_eq_of_covers 10 _ (by decide +kernel) fun t hf y => ?_
  blk_simp
  rw [after0_10]
  idx_vars y
  rw [idx10]
  exact out10_at m c t y0 y1

theorem final16 : (dats m 0 c).arrAt 16 cfg0.N = InprojRef.rwT (rows m c) := by
  refine (dats m 0 c).arrAt_eq_of_covers 16 _ (by decide +kernel) fun t hf y => ?_
  blk_simp
  rw [after0_16]
  idx_vars y
  rw [idx16]
  exact out16_at m c t y0 y1

theorem final17 : (dats m 0 c).arrAt 17 cfg0.N = (truncf .bf16 (InprojRef.vtT (rows m c)) bitsLt_bf16_f32) := by
  refine (dats m 0 c).arrAt_eq_of_covers 17 _ (by decide +kernel) fun t hf y => ?_
  blk_simp
  rw [after0_17]
  idx_vars y
  obtain rfl : y0 = 0 := Subsingleton.elim _ _
  rw [idx17]
  exact out17_at m c t y1 y2

theorem final18 : (dats m 0 c).arrAt 18 cfg0.N = InprojRef.ktT (rows m c) InprojRef.angT := by
  refine (dats m 0 c).arrAt_eq_of_covers 18 _ (by decide +kernel) fun t hf y => ?_
  blk_simp
  rw [after0_18]
  idx_vars y
  obtain rfl : y0 = 0 := Subsingleton.elim _ _
  rw [idx18]
  exact out18_at m c t y1 y2

theorem final19 : (dats m 0 c).arrAt 19 cfg0.N = InprojRef.vtT (rows m c) := by
  refine (dats m 0 c).arrAt_eq_of_covers 19 _ (by decide +kernel) fun t hf y => ?_
  blk_simp
  rw [after0_19]
  idx_vars y
  obtain rfl : y0 = 0 := Subsingleton.elim _ _
  rw [idx19]
  exact out19_at m c t y1 y2

theorem final20 : (dats m 0 c).arrAt 20 cfg0.N = InprojRef.kiwT (rows m c) InprojRef.angT := by
  refine (dats m 0 c).arrAt_eq_of_covers 20 _ (by decide +kernel) fun t hf y => ?_
  blk_simp
  rw [after0_20]
  idx_vars y
  obtain rfl : y0 = 0 := Subsingleton.elim _ _
  rw [idx20]
  exact out20_at m c t y1 y2

variable (m' : (ℓ : Loc Cert.Reference5Ideal.nD Cert.Reference5Ideal.τ Cert.Reference5Ideal.sig) → Buf (Elt Ideal) ℓ)

/-- The projected rows of the reference's own arguments. -/
def rowsR (c : Dev Cert.Reference5Ideal.nD) : FVec Ideal Cert.Reference5Ideal.S2x8192x3012 .f32 :=
  InprojRef.zT (InprojRef.preT (m' ((c.tc : Thread _ _).loc Cert.Reference5Ideal.main_arg0))
    (m' ((c.tc : Thread _ _).loc Cert.Reference5Ideal.main_arg1)) (m' ((c.tc : Thread _ _).loc Cert.Reference5Ideal.main_arg2)))
    (m' ((c.tc : Thread _ _).loc Cert.Reference5Ideal.main_arg3))

theorem q_eq (c : Dev Cert.Reference5Ideal.nD) : Cert.Reference5Ideal.Value.res_main_v131 m' c =
    InprojRef.qT (rowsR m' c) InprojRef.angT := rfl

theorem kb_eq (c : Dev Cert.Reference5Ideal.nD) : Cert.Reference5Ideal.Value.res_main_v133 m' c =
    InprojRef.kbT (rowsR m' c) InprojRef.angT := rfl

theorem kt_eq (c : Dev Cert.Reference5Ideal.nD) : Cert.Reference5Ideal.Value.res_main_v138 m' c =
    InprojRef.ktT (rowsR m' c) InprojRef.angT := rfl

theorem kiw_eq (c : Dev Cert.Reference5Ideal.nD) : Cert.Reference5Ideal.Value.res_main_v140 m' c =
    InprojRef.kiwT (rowsR m' c) InprojRef.angT := rfl

theorem algebraic : Cert.algebraic_Kernel5Ideal_Reference5Ideal := by
  pair_intro
  · run_from Value.run_blocks m g
  · refine (θ_run _ _ _).mono (fun r hr c => ?_) (Cert.Reference5Ideal.Value.run m' g')
    have e : rowsR m' c = rows m c := by
      obtain ⟨e0, e1, e2, e3⟩ := hagree c
      unfold rowsR rows
      rw [e0, e1, e2, e3]
    obtain ⟨h0, h1, h2, h3, h4, h5, h6, h7, hargs⟩ := hr c
    refine ⟨?_, ?_, ?_, ?_, ?_, ?_, ?_, ?_, hargs⟩
    · exact h0.trans ((congrArg InprojRef.uT e).trans (final7 m c).symm)
    · exact h1.trans ((q_eq m' c).trans ((congrArg (InprojRef.qT · InprojRef.angT) e).trans (final8 m c).symm))
    · exact h2.trans ((kb_eq m' c).trans ((congrArg (InprojRef.kbT · InprojRef.angT) e).trans (final10 m c).symm))
    · exact h3.trans ((congrArg InprojRef.rwT e).trans (final16 m c).symm)
    · exact h4.trans ((congrArg InprojRef.vtT e).trans (final17 m c).symm)
    · exact h5.trans ((kt_eq m' c).trans ((congrArg (InprojRef.ktT · InprojRef.angT) e).trans (final18 m c).symm))
    · exact h6.trans ((congrArg InprojRef.vtT e).trans (final19 m c).symm)
    · exact h7.trans ((kiw_eq m' c).trans ((congrArg (InprojRef.kiwT · InprojRef.angT) e).trans (final20 m c).symm))

end Cert.Proof.Inproj

end
-- ==== Proof.lean ====
module

public import proofs.«01_k».proof.Defs
public import proofs.«01_k».proof.Proof.Gen.Kernel.Frame
public import proofs.«01_k».proof.Proof.Gen.Kernel3.Frame
public import proofs.«01_k».proof.Proof.Gen.Kernel4.Frame
public import proofs.«01_k».proof.Proof.Outffn
public import proofs.«01_k».proof.Proof.Ffn
public import proofs.«01_k».proof.Proof.S5
public import proofs.«01_k».proof.Proof.Gen.Kernel5.Frame
public import proofs.«01_k».proof.Proof.Inproj

@[expose] public section

noncomputable section

/-! The claims of the calls, from the modules that prove each. -/

namespace Cert.Proof

open Idealize.ShloMosaic Idealize.SL.Sem

/-- Reference's frame: its run read at the arguments; it declares no semaphore. -/
theorem frame_r : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Reference3's frame: its run read at the arguments; it declares no semaphore. -/
theorem frame_r3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Reference4's frame: its run read at the arguments; it declares no semaphore. -/
theorem frame_r4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- Reference5's frame: its run read at the arguments; it declares no semaphore. -/
theorem frame_r5 : Cert.quiescent_Reference5Ideal := fun m ρ _ =>
  (θ_run Cert.Reference5Ideal.defs _ _).mono
    (fun r h => ⟨fun c => (h c).2.2.2.2.2.2.2.2, Idealize.ShloMosaic.sem_eq_zero_of_no_sems (by decide) r.2⟩)
    (Cert.Reference5Ideal.Value.run (F := Ideal) m ρ)

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_powers_and_finite.Gen.facts,
  fun m ρ _ => Cert.Kernel.Gen.frame m ρ, fun m ρ _ => Cert.KernelIdeal.Gen.frame m ρ,
  fun m ρ _ => Cert.KernelIdeal.Gen.frame m ρ, frame_r, fun m ρ _ => frame_r m ρ trivial,
  fun m ρ _ => Cert.Kernel3.Gen.frame m ρ, fun m ρ _ => Cert.Kernel3Ideal.Gen.frame m ρ,
  frame_r3,
  fun m ρ _ => Cert.Kernel4.Gen.frame m ρ, fun m ρ _ => Cert.Kernel4Ideal.Gen.frame m ρ,
  frame_r4,
  fun m ρ _ => Cert.Kernel5.Gen.frame m ρ, fun m ρ _ => Cert.Kernel5Ideal.Gen.frame m ρ,
  frame_r5,
  trivial, S5.algebraic, trivial, Outffn.algebraic, trivial, Ffn.algebraic,
  trivial, Inproj.algebraic⟩

end Cert.Proof

end
